-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inproj [hPre_finite_inproj : Cert.Pre_finite_inproj.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inproj.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inproj [hPre_finite_inproj : Cert.Pre_finite_inproj.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inproj.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_outproj [hPre_finite_outproj : Cert.Pre_finite_outproj.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_outproj.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_outproj [hPre_finite_outproj : Cert.Pre_finite_outproj.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_outproj.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite_inproj [hKernel2Ideal : Cert.Kernel2Ideal.Facts] [hPre_finite_inproj : Cert.Pre_finite_inproj.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inproj m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite_inproj [hReference2Ideal : Cert.Reference2Ideal.Facts] [hPre_finite_inproj : Cert.Pre_finite_inproj.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inproj m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Kernel3Ideal_pre_finite_outproj [hKernel3Ideal : Cert.Kernel3Ideal.Facts] [hPre_finite_outproj : Cert.Pre_finite_outproj.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_outproj m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Reference3Ideal_pre_finite_outproj [hReference3Ideal : Cert.Reference3Ideal.Facts] [hPre_finite_outproj : Cert.Pre_finite_outproj.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_outproj m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_inproj [hKernel2Ideal : Cert.Kernel2Ideal.Facts] [hReference2Ideal : Cert.Reference2Ideal.Facts] [hPre_finite_inproj : Cert.Pre_finite_inproj.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inproj m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v33_0)) (v1 : (c : Dev Cert.Kernel2Ideal.nD) → Buf (Elt Ideal) ((c.tc : Thread Cert.Kernel2Ideal.nD Cert.Kernel2Ideal.τ).loc Cert.Kernel2Ideal.main_v33_1)) (v2 : (c : Dev Cert.Kernel2Ideal.nD) → Buf (Elt Ideal) ((c.tc : Thread Cert.Kernel2Ideal.nD Cert.Kernel2Ideal.τ).loc Cert.Kernel2Ideal.main_v33_2)) (v3 : (c : Dev Cert.Kernel2Ideal.nD) → Buf (Elt Ideal) ((c.tc : Thread Cert.Kernel2Ideal.nD Cert.Kernel2Ideal.τ).loc Cert.Kernel2Ideal.main_v33_3)) (v4 : (c : Dev Cert.Kernel2Ideal.nD) → Buf (Elt Ideal) ((c.tc : Thread Cert.Kernel2Ideal.nD Cert.Kernel2Ideal.τ).loc Cert.Kernel2Ideal.main_v33_4)) (v5 : (c : Dev Cert.Kernel2Ideal.nD) → Buf (Elt Ideal) ((c.tc : Thread Cert.Kernel2Ideal.nD Cert.Kernel2Ideal.τ).loc Cert.Kernel2Ideal.main_v33_5)) (v6 : (c : Dev Cert.Kernel2Ideal.nD) → Buf (Elt Ideal) ((c.tc : Thread Cert.Kernel2Ideal.nD Cert.Kernel2Ideal.τ).loc Cert.Kernel2Ideal.main_v33_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v33_0) = v0 c
          ∧ r.2.mem ((c.tc : Thread Cert.Kernel2Ideal.nD Cert.Kernel2Ideal.τ).loc Cert.Kernel2Ideal.main_v33_1) = v1 c
          ∧ r.2.mem ((c.tc : Thread Cert.Kernel2Ideal.nD Cert.Kernel2Ideal.τ).loc Cert.Kernel2Ideal.main_v33_2) = v2 c
          ∧ r.2.mem ((c.tc : Thread Cert.Kernel2Ideal.nD Cert.Kernel2Ideal.τ).loc Cert.Kernel2Ideal.main_v33_3) = v3 c
          ∧ r.2.mem ((c.tc : Thread Cert.Kernel2Ideal.nD Cert.Kernel2Ideal.τ).loc Cert.Kernel2Ideal.main_v33_4) = v4 c
          ∧ r.2.mem ((c.tc : Thread Cert.Kernel2Ideal.nD Cert.Kernel2Ideal.τ).loc Cert.Kernel2Ideal.main_v33_5) = v5 c
          ∧ r.2.mem ((c.tc : Thread Cert.Kernel2Ideal.nD Cert.Kernel2Ideal.τ).loc Cert.Kernel2Ideal.main_v33_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_v82) = v1 c
          ∧ r.2.mem ((c.tc : Thread Cert.Reference2Ideal.nD Cert.Reference2Ideal.τ).loc Cert.Reference2Ideal.main_v22) = v2 c
          ∧ r.2.mem ((c.tc : Thread Cert.Reference2Ideal.nD Cert.Reference2Ideal.τ).loc Cert.Reference2Ideal.main_v80) = v3 c
          ∧ r.2.mem ((c.tc : Thread Cert.Reference2Ideal.nD Cert.Reference2Ideal.τ).loc Cert.Reference2Ideal.main_v69) = v4 c
          ∧ r.2.mem ((c.tc : Thread Cert.Reference2Ideal.nD Cert.Reference2Ideal.τ).loc Cert.Reference2Ideal.main_v25) = v5 c
          ∧ r.2.mem ((c.tc : Thread Cert.Reference2Ideal.nD Cert.Reference2Ideal.τ).loc Cert.Reference2Ideal.main_v26) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_finite_outproj [hKernel3Ideal : Cert.Kernel3Ideal.Facts] [hReference3Ideal : Cert.Reference3Ideal.Facts] [hPre_finite_outproj : Cert.Pre_finite_outproj.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_outproj m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_v87) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite_inproj : Cert.Pre_finite_inproj.Facts) (hPre_finite_outproj : Cert.Pre_finite_outproj.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_inproj (hKernel2Ideal := hKernel2Ideal) (hPre_finite_inproj := hPre_finite_inproj)
    ∧ quiescent_Reference2Ideal (hReference2Ideal := hReference2Ideal)
    ∧ quiescent_Reference2Ideal_pre_finite_inproj (hReference2Ideal := hReference2Ideal) (hPre_finite_inproj := hPre_finite_inproj)
    ∧ quiescent_Kernel3 (hKernel3 := hKernel3)
    ∧ quiescent_Kernel3Ideal (hKernel3Ideal := hKernel3Ideal)
    ∧ quiescent_Kernel3Ideal_pre_finite_outproj (hKernel3Ideal := hKernel3Ideal) (hPre_finite_outproj := hPre_finite_outproj)
    ∧ quiescent_Reference3Ideal (hReference3Ideal := hReference3Ideal)
    ∧ quiescent_Reference3Ideal_pre_finite_outproj (hReference3Ideal := hReference3Ideal) (hPre_finite_outproj := hPre_finite_outproj)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_inproj (hKernel2Ideal := hKernel2Ideal) (hReference2Ideal := hReference2Ideal) (hPre_finite_inproj := hPre_finite_inproj)
    ∧ preserves_Kernel3_Kernel3Ideal
    ∧ algebraic_Kernel3Ideal_Reference3Ideal_pre_finite_outproj (hKernel3Ideal := hKernel3Ideal) (hReference3Ideal := hReference3Ideal) (hPre_finite_outproj := hPre_finite_outproj)
-- ==== Pre_finite.lean ====
abbrev S4x4096x512 : Shape := ⟨3, ![4, 4096, 512]⟩
abbrev S32x8 : Shape := ⟨2, ![32, 8]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S32x8 : S_.BroadcastsInDim S32x8 (![] : Fin 0 → Fin S32x8.rank)
  reducesTo_S32x8_S_d0_1 : S32x8.ReducesTo [0, 1] S_

variable [Facts]

def fn {F : FTy → Type} [FloatOps F] (main_arg0 : FVec F S4x4096x512 .f32) (main_arg1 : FVec F S4x4096x512 .f32) (main_arg2 : FVec F S4x4096x512 .f32) (main_arg3 : FVec F S32x8 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x512 .f32 := Host.absf main_arg1
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S32x8 .f32 := Host.absf main_arg3
  let main_cst_2 : FVec F S_ .f32 := constant S_ .f32 0x7F800000#32
  let main_v10 : FVec F S32x8 .f32 := broadcastInDim S32x8 ![] bcast_S_S32x8 main_cst_2
  let main_v11 : IVec S32x8 1 := cmpf .olt main_v9 main_v10
  let main_c_3 : IVec S_ 1 := constantI S_ 1 1#1
  let main_v12 : IVec S_ 1 := (fun x v => Host.reduce IntOp.andi x v reducesTo_S32x8_S_d0_1 h_S_) main_v11 main_c_3
  let main_v13 : IVec S_ 1 := andi main_v8 main_v12
  main_v13
-- ==== Pre_finite_inproj.lean ====
abbrev S4x4096x1024 : Shape := ⟨3, ![4, 4096, 1024]⟩
abbrev S4x1x1024 : Shape := ⟨3, ![4, 1, 1024]⟩
abbrev S1024 : Shape := ⟨1, ![1024]⟩
abbrev S1024x2560 : Shape := ⟨2, ![1024, 2560]⟩
abbrev S64 : Shape := ⟨1, ![64]⟩
abbrev S256 : Shape := ⟨1, ![256]⟩
abbrev S4x128x128 : Shape := ⟨3, ![4, 128, 128]⟩
abbrev S4x128 : Shape := ⟨2, ![4, 128]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x1x1024 : S_.BroadcastsInDim S4x1x1024 (![] : Fin 0 → Fin S4x1x1024.rank)
  reducesTo_S4x1x1024_S_d0_1_2 : S4x1x1024.ReducesTo [0, 1, 2] S_
  bcast_S_S1024 : S_.BroadcastsInDim S1024 (![] : Fin 0 → Fin S1024.rank)
  reducesTo_S1024_S_d0 : S1024.ReducesTo [0] S_
  bcast_S_S1024x2560 : S_.BroadcastsInDim S1024x2560 (![] : Fin 0 → Fin S1024x2560.rank)
  reducesTo_S1024x2560_S_d0_1 : S1024x2560.ReducesTo [0, 1] S_
  bcast_S_S256 : S_.BroadcastsInDim S256 (![] : Fin 0 → Fin S256.rank)
  reducesTo_S256_S_d0 : S256.ReducesTo [0] S_
  bcast_S_S4x128x128 : S_.BroadcastsInDim S4x128x128 (![] : Fin 0 → Fin S4x128x128.rank)
  reducesTo_S4x128x128_S_d0_1_2 : S4x128x128.ReducesTo [0, 1, 2] S_

variable [Facts]

def fn_part1 {F : FTy → Type} [FloatOps F] (main_arg4 : FVec F S1024x2560 .f32) (main_arg7 : FVec F S256 .f32) (main_arg8 : FVec F S4x128x128 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2560 .f32 := Host.absf main_arg4
  let main_cst_6 : FVec F S_ .f32 := constant S_ .f32 0x7F800000#32
  let main_v20 : FVec F S1024x2560 .f32 := broadcastInDim S1024x2560 ![] bcast_S_S1024x2560 main_cst_6
  let main_v21 : IVec S1024x2560 1 := cmpf .olt main_v19 main_v20
  let main_c_7 : IVec S_ 1 := constantI S_ 1 1#1
  let main_v22 : IVec S_ 1 := (fun x v => Host.reduce IntOp.andi x v reducesTo_S1024x2560_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S4x128x128 .f32 := Host.absf main_arg8
  let main_cst_10 : FVec F S_ .f32 := constant S_ .f32 0x7F800000#32
  let main_v30 : FVec F S4x128x128 .f32 := broadcastInDim S4x128x128 ![] bcast_S_S4x128x128 main_cst_10
  let main_v31 : IVec S4x128x128 1 := cmpf .olt main_v29 main_v30
  let main_c_11 : IVec S_ 1 := constantI S_ 1 1#1
  let main_v32 : IVec S_ 1 := (fun x v => Host.reduce IntOp.andi x v reducesTo_S4x128x128_S_d0_1_2 h_S_) main_v31 main_c_11
  let main_v33 : IVec S_ 1 := andi main_v28 main_v32
  main_v33

def fn {F : FTy → Type} [FloatOps F] (main_arg0 : FVec F S4x4096x1024 .f32) (main_arg1 : FVec F S4x1x1024 .f32) (main_arg2 : FVec F S4x1x1024 .f32) (main_arg3 : FVec F S1024 .f32) (main_arg4 : FVec F S1024x2560 .f32) (main_arg5 : FVec F S64 .f32) (main_arg6 : FVec F S64 .f32) (main_arg7 : FVec F S256 .f32) (main_arg8 : FVec F S4x128x128 .f32) (main_arg9 : FVec F S4x128 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x1x1024 .f32 := Host.absf main_arg1
  let main_cst_0 : FVec F S_ .f32 := constant S_ .f32 0x7F800000#32
  let main_v5 : FVec F S4x1x1024 .f32 := broadcastInDim S4x1x1024 ![] bcast_S_S4x1x1024 main_cst_0
  let main_v6 : IVec S4x1x1024 1 := cmpf .olt main_v4 main_v5
  let main_c_1 : IVec S_ 1 := constantI S_ 1 1#1
  let main_v7 : IVec S_ 1 := (fun x v => Host.reduce IntOp.andi x v reducesTo_S4x1x1024_S_d0_1_2 h_S_) main_v6 main_c_1
  let main_v8 : IVec S_ 1 := andi main_v3 main_v7
  let main_v9 : FVec F S4x1x1024 .f32 := Host.absf main_arg2
  let main_cst_2 : FVec F S_ .f32 := constant S_ .f32 0x7F800000#32
  let main_v10 : FVec F S4x1x1024 .f32 := broadcastInDim S4x1x1024 ![] bcast_S_S4x1x1024 main_cst_2
  let main_v11 : IVec S4x1x1024 1 := cmpf .olt main_v9 main_v10
  let main_c_3 : IVec S_ 1 := constantI S_ 1 1#1
  let main_v12 : IVec S_ 1 := (fun x v => Host.reduce IntOp.andi x v reducesTo_S4x1x1024_S_d0_1_2 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg7 main_arg8 main_v13 main_v16
-- ==== Pre_finite_outproj.lean ====
abbrev S4x4096x512 : Shape := ⟨3, ![4, 4096, 512]⟩
abbrev S4x4096x256 : Shape := ⟨3, ![4, 4096, 256]⟩
abbrev S4x4096x1024 : Shape := ⟨3, ![4, 4096, 1024]⟩
abbrev S4x1x1024 : Shape := ⟨3, ![4, 1, 1024]⟩
abbrev S1024 : Shape := ⟨1, ![1024]⟩
abbrev S1024x1024 : Shape := ⟨2, ![1024, 1024]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel

variable [Facts]

def fn {F : FTy → Type} [FloatOps F] (main_arg0 : FVec F S4x4096x512 .f32) (main_arg1 : FVec F S4x4096x512 .f32) (main_arg2 : FVec F S4x4096x512 .f32) (main_arg3 : FVec F S4x4096x512 .f32) (main_arg4 : FVec F S4x4096x512 .f32) (main_arg5 : FVec F S4x4096x512 .f32) (main_arg6 : FVec F S4x4096x256 .f32) (main_arg7 : FVec F S4x4096x256 .f32) (main_arg8 : FVec F S4x4096x1024 .f32) (main_arg9 : FVec F S4x1x1024 .f32) (main_arg10 : FVec F S4x1x1024 .f32) (main_arg11 : FVec F S4x1x1024 .f32) (main_arg12 : FVec F S1024 .f32) (main_arg13 : FVec F S1024x1024 .f32) (main_arg14 : FVec F S1024 .f32) : IVec S_ 1 :=
  let main_v0 : FVec F S4x4096x512 .f32 := Host.absf main_arg3
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x512 .f32 := Host.absf main_arg4
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S4x4096x512 .f32 := Host.absf main_arg5
  let main_cst_2 : FVec F S_ .f32 := constant S_ .f32 0x7F800000#32
  let main_v10 : FVec F S4x4096x512 .f32 := broadcastInDim S4x4096x512 ![] bcast_S_S4x4096x512 main_cst_2
  let main_v11 : IVec S4x4096x512 1 := cmpf .olt main_v9 main_v10
  let main_c_3 : IVec S_ 1 := constantI S_ 1 1#1
  let main_v12 : IVec S_ 1 := (fun x v => Host.reduce IntOp.andi x v reducesTo_S4x4096x512_S_d0_1_2 h_S_) main_v11 main_c_3
  let main_v13 : IVec S_ 1 := andi main_v8 main_v12
  main_v13
-- ==== Kernel.lean ====
abbrev S4x4096x512 : Shape := ⟨3, ![4, 4096, 512]⟩
abbrev S32x8 : Shape := ⟨2, ![32, 8]⟩
abbrev S_ : Shape := ⟨0, ![]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S1x128x256 : Shape := ⟨3, ![1, 128, 256]⟩
abbrev S1x128x512 : Shape := ⟨3, ![1, 128, 512]⟩
abbrev S128x512 : Shape := ⟨2, ![128, 512]⟩
abbrev S256x512 : Shape := ⟨2, ![256, 512]⟩
abbrev S128x64 : Shape := ⟨2, ![128, 64]⟩
abbrev S256x64 : Shape := ⟨2, ![256, 64]⟩
abbrev S1x128x64 : Shape := ⟨3, ![1, 128, 64]⟩

abbrev nBuf : Space → Nat
  | .hbm => 73
  | .vmem => 15
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S32x8, .f32⟩
  | .hbm, ⟨4, _⟩ => ⟨S_, .f32⟩
  | .hbm, ⟨5, _⟩ => ⟨S4x4096x512, .f32⟩
  | .hbm, ⟨6, _⟩ => ⟨S4x4096x512, .f32⟩
  | .hbm, ⟨7, _⟩ => ⟨S128, .i32⟩
  | .hbm, ⟨8, _⟩ => ⟨S128x1, .i32⟩
  | .hbm, ⟨9, _⟩ => ⟨S_, .i32⟩
  | .hbm, ⟨10, _⟩ => ⟨S128x1, .i32⟩
  | .hbm, ⟨11, _⟩ => ⟨S128x1, .i32⟩
  | .hbm, ⟨12, _⟩ => ⟨S256, .i32⟩
  | .hbm, ⟨13, _⟩ => ⟨S1x256, .i32⟩
  | .hbm, ⟨14, _⟩ => ⟨S128x256, .i32⟩
  | .hbm, ⟨15, _⟩ => ⟨S128x256, .i32⟩
  | .hbm, ⟨16, _⟩ => ⟨S128x256, .i32⟩
  | .hbm, ⟨17, _⟩ => ⟨S_, .i32⟩
  | .hbm, ⟨18, _⟩ => ⟨S128x256, .i32⟩
  | .hbm, ⟨19, _⟩ => ⟨S128x256, .i1⟩
  | .hbm, ⟨20, _⟩ => ⟨S_, .i32⟩
  | .hbm, ⟨21, _⟩ => ⟨S128x256, .i32⟩
  | .hbm, ⟨22, _⟩ => ⟨S128x256, .i1⟩
  | .hbm, ⟨23, _⟩ => ⟨S128x256, .i1⟩
  | .hbm, ⟨24, _⟩ => ⟨S_, .i32⟩
  | .hbm, ⟨25, _⟩ => ⟨S128x256, .i32⟩
  | .hbm, ⟨26, _⟩ => ⟨S128x256, .i32⟩
  | .hbm, ⟨27, _⟩ => ⟨S_, .i32⟩
  | .hbm, ⟨28, _⟩ => ⟨S128x256, .i32⟩
  | .hbm, ⟨29, _⟩ => ⟨S128x256, .i32⟩
  | .hbm, ⟨30, _⟩ => ⟨S_, .i32⟩
  | .hbm, ⟨31, _⟩ => ⟨S128x256, .i32⟩
  | .hbm, ⟨32, _⟩ => ⟨S128x256, .i32⟩
  | .hbm, ⟨33, _⟩ => ⟨S128x256, .f32⟩
  | .hbm, ⟨34, _⟩ => ⟨S_, .f32⟩
  | .hbm, ⟨35, _⟩ => ⟨S128x256, .f32⟩
  | .hbm, ⟨36, _⟩ => ⟨S128x256, .f32⟩
  | .hbm, ⟨37, _⟩ => ⟨S128x256, .f32⟩
  | .hbm, ⟨38, _⟩ => ⟨S_, .f32⟩
  | .hbm, ⟨39, _⟩ => ⟨S128x256, .f32⟩
  | .hbm, ⟨40, _⟩ => ⟨S128x256, .f32⟩
  | .hbm, ⟨41, _⟩ => ⟨S_, .f32⟩
  | .hbm, ⟨42, _⟩ => ⟨S128x256, .f32⟩
  | .hbm, ⟨43, _⟩ => ⟨S128x256, .f32⟩
  | .hbm, ⟨44, _⟩ => ⟨S128x256, .i32⟩
  | .hbm, ⟨45, _⟩ => ⟨S_, .i32⟩
  | .hbm, ⟨46, _⟩ => ⟨S128x256, .i32⟩
  | .hbm, ⟨47, _⟩ => ⟨S128x256, .i32⟩
  | .hbm, ⟨48, _⟩ => ⟨S_, .i32⟩
  | .hbm, ⟨49, _⟩ => ⟨S128x256, .i32⟩
  | .hbm, ⟨50, _⟩ => ⟨S128x256, .i1⟩
  | .hbm, ⟨51, _⟩ => ⟨S_, .i32⟩
  | .hbm, ⟨52, _⟩ => ⟨S128x256, .i32⟩
  | .hbm, ⟨53, _⟩ => ⟨S128x256, .i32⟩
  | .hbm, ⟨54, _⟩ => ⟨S128x256, .i32⟩
  | .hbm, ⟨55, _⟩ => ⟨S_, .i32⟩
  | .hbm, ⟨56, _⟩ => ⟨S128x256, .i32⟩
  | .hbm, ⟨57, _⟩ => ⟨S128x256, .i1⟩
  | .hbm, ⟨58, _⟩ => ⟨S_, .i32⟩
  | .hbm, ⟨59, _⟩ => ⟨S128x256, .i32⟩
  | .hbm, ⟨60, _⟩ => ⟨S128x256, .i32⟩
  | .hbm, ⟨61, _⟩ => ⟨S128x256, .i32⟩
  | .hbm, ⟨62, _⟩ => ⟨S128x256x1, .i32⟩
  | .hbm, ⟨63, _⟩ => ⟨S128x256x8, .f32⟩
  | .hbm, ⟨64, _⟩ => ⟨S8x128x256, .f32⟩
  | .hbm, ⟨65, _⟩ => ⟨S1x128x256, .i1⟩
  | .hbm, ⟨66, _⟩ => ⟨S_, .f32⟩
  | .hbm, ⟨67, _⟩ => ⟨S_, .f32⟩
  | .hbm, ⟨68, _⟩ => ⟨S8x128x256, .i1⟩
  | .hbm, ⟨69, _⟩ => ⟨S8x128x256, .f32⟩
  | .hbm, ⟨70, _⟩ => ⟨S8x128x256, .f32⟩
  | .hbm, ⟨71, _⟩ => ⟨S4x4096x512, .f32⟩
  | .hbm, ⟨72, _⟩ => ⟨S4x4096x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S8x128x256, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_8 : Ref sig .tc := ⟨.hbm, 45, rfl⟩
abbrev main_v31 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_c_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_11 : Ref sig .tc := ⟨.hbm, 55, rfl⟩
abbrev main_v38 : Ref sig .tc := ⟨.hbm, 56, rfl⟩
abbrev main_v39 : Ref sig .tc := ⟨.hbm, 57, rfl⟩
abbrev main_c_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v47 : Ref sig .tc := ⟨.hbm, 70, rfl⟩
abbrev main_v48_0 : Ref sig .tc := ⟨.hbm, 71, rfl⟩
abbrev main_v48_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 1, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x512 : Shape := ⟨3, ![4, 4096, 512]⟩
abbrev S32x8 : Shape := ⟨2, ![32, 8]⟩
abbrev S4x4096x8x64 : Shape := ⟨4, ![4, 4096, 8, 64]⟩
abbrev S4x4096x1x8x64 : Shape := ⟨5, ![4, 4096, 1, 8, 64]⟩
abbrev S4x1x4096x8x64 : Shape := ⟨5, ![4, 1, 4096, 8, 64]⟩
abbrev S_ : Shape := ⟨0, ![]⟩
abbrev S4x1x32x128x8x64 : Shape := ⟨6, ![4, 1, 32, 128, 8, 64]⟩
abbrev S4x1x31x128x8x64 : Shape := ⟨6, ![4, 1, 31, 128, 8, 64]⟩
abbrev S4x1x32x256x8x64 : Shape := ⟨6, ![4, 1, 32, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S128x256x1 : Shape := ⟨3, ![128, 256, 1]⟩
abbrev S128x256x8 : Shape := ⟨3, ![128, 256, 8]⟩
abbrev S8x128x256 : Shape := ⟨3, ![8, 128, 256]⟩
abbrev S4x1x32x8x128x256 : Shape := ⟨6, ![4, 1, 32, 8, 128, 256]⟩
abbrev S1x1x1x8x128x256 : Shape := ⟨6, ![1, 1, 1, 8, 128, 256]⟩
abbrev S32x1x128x256 : Shape := ⟨4, ![32, 1, 128, 256]⟩
abbrev S4x1x32x8x128 : Shape := ⟨5, ![4, 1, 32, 8, 128]⟩
abbrev S4x1x32x8x128x1 : Shape := ⟨6, ![4, 1, 32, 8, 128, 1]⟩
abbrev S4x1x32x8x64x128 : Shape := ⟨6, ![4, 1, 32, 8, 64, 128]⟩
abbrev S4x1x32x128x8 : Shape := ⟨5, ![4, 1, 32, 128, 8]⟩
abbrev S4x1x4096x8 : Shape := ⟨4, ![4, 1, 4096, 8]⟩
abbrev S4x4096x1x8 : Shape := ⟨4, ![4, 4096, 1, 8]⟩
abbrev S4x4096x8 : Shape := ⟨3, ![4, 4096, 8]⟩
abbrev S4x4096x8x1 : Shape := ⟨4, ![4, 4096, 8, 1]⟩

abbrev nBuf : Space → Nat
  | .hbm => 152
  | .vmem => 0
  | .smem => 0
  | _ => 0

abbrev hbmTy0_0 (i : Nat) : BufTy := match i % 128 with
  | 0 => ⟨S4x4096x512, .f32⟩
  | 1 => ⟨S4x4096x512, .f32⟩
  | 2 => ⟨S4x4096x512, .f32⟩
  | 3 => ⟨S32x8, .f32⟩
  | 4 => ⟨S4x4096x8x64, .f32⟩
  | 5 => ⟨S4x4096x8x64, .f32⟩
  | 6 => ⟨S4x4096x8x64, .f32⟩
  | 7 => ⟨S4x4096x1x8x64, .f32⟩
  | 8 => ⟨S4x1x4096x8x64, .f32⟩
  | 9 => ⟨S_, .i32⟩
  | 10 => ⟨S_, .f32⟩
  | 11 => ⟨S4x1x4096x8x64, .f32⟩
  | 12 => ⟨S4x1x32x128x8x64, .f32⟩
  | 13 => ⟨S4x4096x1x8x64, .f32⟩
  | 14 => ⟨S4x1x4096x8x64, .f32⟩
  | 15 => ⟨S_, .i32⟩
  | 16 => ⟨S_, .f32⟩
  | 17 => ⟨S4x1x4096x8x64, .f32⟩
  | 18 => ⟨S4x1x32x128x8x64, .f32⟩
  | 19 => ⟨S4x1x31x128x8x64, .f32⟩
  | 20 => ⟨S_, .i32⟩
  | 21 => ⟨S_, .f32⟩
  | 22 => ⟨S4x1x32x128x8x64, .f32⟩
  | 23 => ⟨S4x1x32x256x8x64, .f32⟩
  | 24 => ⟨S4x4096x1x8x64, .f32⟩
  | 25 => ⟨S4x1x4096x8x64, .f32⟩
  | 26 => ⟨S_, .i32⟩
  | 27 => ⟨S_, .f32⟩
  | 28 => ⟨S4x1x4096x8x64, .f32⟩
  | 29 => ⟨S4x1x32x128x8x64, .f32⟩
  | 30 => ⟨S4x1x31x128x8x64, .f32⟩
  | 31 => ⟨S_, .i32⟩
  | 32 => ⟨S_, .f32⟩
  | 33 => ⟨S4x1x32x128x8x64, .f32⟩
  | 34 => ⟨S4x1x32x256x8x64, .f32⟩
  | 35 => ⟨S128, .i32⟩
  | 36 => ⟨S128x1, .i32⟩
  | 37 => ⟨S_, .i32⟩
  | 38 => ⟨S128x1, .i32⟩
  | 39 => ⟨S128x1, .i32⟩
  | 40 => ⟨S256, .i32⟩
  | 41 => ⟨S1x256, .i32⟩
  | 42 => ⟨S128x256, .i32⟩
  | 43 => ⟨S128x256, .i32⟩
  | 44 => ⟨S128x256, .i32⟩
  | 45 => ⟨S32, .i32⟩
  | 46 => ⟨S32x1x1, .i32⟩
  | 47 => ⟨S_, .i32⟩
  | 48 => ⟨S32x1x1, .i32⟩
  | 49 => ⟨S32x1x1, .i32⟩
  | 50 => ⟨S_, .i32⟩
  | 51 => ⟨S32x1x1, .i32⟩
  | 52 => ⟨S32x1x1, .i32⟩
  | 53 => ⟨S1x1x256, .i32⟩
  | 54 => ⟨S32x1x256, .i32⟩
  | 55 => ⟨S32x1x256, .i32⟩
  | 56 => ⟨S32x1x256, .i32⟩
  | 57 => ⟨S_, .i32⟩
  | 58 => ⟨S128x256, .i32⟩
  | 59 => ⟨S128x256, .i1⟩
  | 60 => ⟨S_, .i32⟩
  | 61 => ⟨S128x256, .i32⟩
  | 62 => ⟨S128x256, .i1⟩
  | 63 => ⟨S128x256, .i1⟩
  | 64 => ⟨S_, .i32⟩
  | 65 => ⟨S32x1x256, .i32⟩
  | 66 => ⟨S32x1x256, .i1⟩
  | 67 => ⟨S1x128x256, .i1⟩
  | 68 => ⟨S32x128x256, .i1⟩
  | 69 => ⟨S32x128x256, .i1⟩
  | 70 => ⟨S32x128x256, .i1⟩
  | 71 => ⟨S_, .i32⟩
  | 72 => ⟨S128x256, .i32⟩
  | 73 => ⟨S128x256, .i32⟩
  | 74 => ⟨S_, .i32⟩
  | 75 => ⟨S128x256, .i32⟩
  | 76 => ⟨S128x256, .i32⟩
  | 77 => ⟨S_, .i32⟩
  | 78 => ⟨S128x256, .i32⟩
  | 79 => ⟨S128x256, .i32⟩
  | 80 => ⟨S128x256, .f32⟩
  | 81 => ⟨S_, .f32⟩
  | 82 => ⟨S128x256, .f32⟩
  | 83 => ⟨S128x256, .f32⟩
  | 84 => ⟨S128x256, .f32⟩
  | 85 => ⟨S_, .f32⟩
  | 86 => ⟨S128x256, .f32⟩
  | 87 => ⟨S128x256, .f32⟩
  | 88 => ⟨S_, .f32⟩
  | 89 => ⟨S128x256, .f32⟩
  | 90 => ⟨S128x256, .f32⟩
  | 91 => ⟨S128x256, .i32⟩
  | 92 => ⟨S_, .i32⟩
  | 93 => ⟨S128x256, .i32⟩
  | 94 => ⟨S128x256, .i32⟩
  | 95 => ⟨S_, .i32⟩
  | 96 => ⟨S128x256, .i32⟩
  | 97 => ⟨S128x256, .i1⟩
  | 98 => ⟨S_, .i32⟩
  | 99 => ⟨S128x256, .i32⟩
  | 100 => ⟨S128x256, .i32⟩
  | 101 => ⟨S128x256, .i32⟩
  | 102 => ⟨S_, .i32⟩
  | 103 => ⟨S128x256, .i32⟩
  | 104 => ⟨S128x256, .i1⟩
  | 105 => ⟨S_, .i32⟩
  | 106 => ⟨S128x256, .i32⟩
  | 107 => ⟨S128x256, .i32⟩
  | 108 => ⟨S128x256, .i32⟩
  | 109 => ⟨S128x256x1, .i32⟩
  | 110 => ⟨S128x256x8, .f32⟩
  | 111 => ⟨S8x128x256, .f32⟩
  | 112 => ⟨S4x1x32x8x128x256, .f32⟩
  | 113 => ⟨S_, .f32⟩
  | 114 => ⟨S4x1x32x8x128x256, .f32⟩
  | 115 => ⟨S4x1x32x8x128x256, .f32⟩
  | 116 => ⟨S1x1x1x8x128x256, .f32⟩
  | 117 => ⟨S4x1x32x8x128x256, .f32⟩
  | 118 => ⟨S4x1x32x8x128x256, .f32⟩
  | 119 => ⟨S32x1x128x256, .i1⟩
  | 120 => ⟨S_, .f32⟩
  | 121 => ⟨S_, .f32⟩
  | 122 => ⟨S4x1x32x8x128x256, .i1⟩
  | 123 => ⟨S4x1x32x8x128x256, .f32⟩
  | 124 => ⟨S4x1x32x8x128x256, .f32⟩
  | 125 => ⟨S_, .f32⟩
  | 126 => ⟨S4x1x32x8x128, .f32⟩
  | 127 => ⟨S4x1x32x8x128x1, .f32⟩
  | _ => ⟨S4x4096x512, .f32⟩

abbrev hbmTy0_1 (i : Nat) : BufTy := match i % 128 with
  | 0 => ⟨S4x1x32x8x128x256, .f32⟩
  | 1 => ⟨S4x1x32x8x128x256, .f32⟩
  | 2 => ⟨S4x1x32x8x128x256, .f32⟩
  | 3 => ⟨S_, .f32⟩
  | 4 => ⟨S4x1x32x8x128, .f32⟩
  | 5 => ⟨S4x1x32x8x128, .f32⟩
  | 6 => ⟨S4x1x32x8x128, .f32⟩
  | 7 => ⟨S4x1x32x8x128x1, .f32⟩
  | 8 => ⟨S4x1x32x8x128x256, .f32⟩
  | 9 => ⟨S4x1x32x8x128x256, .f32⟩
  | 10 => ⟨S4x1x32x8x128x256, .f32⟩
  | 11 => ⟨S4x1x32x8x64x128, .f32⟩
  | 12 => ⟨S4x1x32x128x8x64, .f32⟩
  | 13 => ⟨S4x1x4096x8x64, .f32⟩
  | 14 => ⟨S4x4096x1x8x64, .f32⟩
  | 15 => ⟨S4x4096x8x64, .f32⟩
  | 16 => ⟨S4x1x32x128x8, .f32⟩
  | 17 => ⟨S4x1x4096x8, .f32⟩
  | 18 => ⟨S4x4096x1x8, .f32⟩
  | 19 => ⟨S4x4096x8, .f32⟩
  | 20 => ⟨S4x4096x8x1, .f32⟩
  | 21 => ⟨S4x4096x8x64, .f32⟩
  | 22 => ⟨S4x4096x512, .f32⟩
  | 23 => ⟨S4x4096x512, .f32⟩
  | _ => ⟨S4x4096x512, .f32⟩

abbrev hbmTy (i : Nat) : BufTy := match i / 128 with
  | 0 => hbmTy0_0 i
  | 1 => hbmTy0_1 i
  | _ => ⟨S4x4096x512, .f32⟩

abbrev bufTy : (tb : Table) → Fin (tcTables nBuf tb) → BufTy
  | .hbm, ⟨i, _⟩ => hbmTy i
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call2_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_call3_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_call4_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_7 : Ref sig .tc := ⟨.hbm, 57, rfl⟩
abbrev main_v40 : Ref sig .tc := ⟨.hbm, 58, rfl⟩
abbrev main_v41 : Ref sig .tc := ⟨.hbm, 59, rfl⟩
abbrev main_c_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_cst_14 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_15 : Ref sig .tc := ⟨.hbm, 92, rfl⟩
abbrev main_v66 : Ref sig .tc := ⟨.hbm, 93, rfl⟩
abbrev main_v67 : Ref sig .tc := ⟨.hbm, 94, rfl⟩
abbrev main_c_16 : Ref sig .tc := ⟨.hbm, 95, rfl⟩
abbrev main_v68 : Ref sig .tc := ⟨.hbm, 96, rfl⟩
abbrev main_v69 : Ref sig .tc := ⟨.hbm, 97, rfl⟩
abbrev main_c_17 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_18 : Ref sig .tc := ⟨.hbm, 102, rfl⟩
abbrev main_v73 : Ref sig .tc := ⟨.hbm, 103, rfl⟩
abbrev main_v74 : Ref sig .tc := ⟨.hbm, 104, rfl⟩
abbrev main_c_19 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_20 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_21 : Ref sig .tc := ⟨.hbm, 120, rfl⟩
abbrev main_call6_v0 : Ref sig .tc := ⟨.hbm, 121, rfl⟩
abbrev main_call6_v1 : Ref sig .tc := ⟨.hbm, 122, rfl⟩
abbrev main_call6_v2 : Ref sig .tc := ⟨.hbm, 123, rfl⟩
abbrev main_v88 : Ref sig .tc := ⟨.hbm, 124, rfl⟩
abbrev main_cst_22 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_23 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x1x1024 : Shape := ⟨3, ![4, 1, 1024]⟩
abbrev S1024 : Shape := ⟨1, ![1024]⟩
abbrev S1024x2560 : Shape := ⟨2, ![1024, 2560]⟩
abbrev S64 : Shape := ⟨1, ![64]⟩
abbrev S256 : Shape := ⟨1, ![256]⟩
abbrev S4x128x128 : Shape := ⟨3, ![4, 128, 128]⟩
abbrev S4x128 : Shape := ⟨2, ![4, 128]⟩
abbrev S128x128 : Shape := ⟨2, ![128, 128]⟩
abbrev S_ : Shape := ⟨0, ![]⟩
abbrev S128x4x128 : Shape := ⟨3, ![128, 4, 128]⟩
abbrev S128x512 : Shape := ⟨2, ![128, 512]⟩
abbrev S1x128x512 : Shape := ⟨3, ![1, 128, 512]⟩
abbrev S2x128x512 : Shape := ⟨3, ![2, 128, 512]⟩
abbrev S128x4 : Shape := ⟨2, ![128, 4]⟩
abbrev S128x4x64 : Shape := ⟨3, ![128, 4, 64]⟩
abbrev S128x256 : Shape := ⟨2, ![128, 256]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1x256 : Shape := ⟨2, ![1, 256]⟩
abbrev S512x1 : Shape := ⟨2, ![512, 1]⟩
abbrev S512x512 : Shape := ⟨2, ![512, 512]⟩
abbrev S4x4096x512 : Shape := ⟨3, ![4, 4096, 512]⟩
abbrev S4x4096x256 : Shape := ⟨3, ![4, 4096, 256]⟩
abbrev S1x512x1024 : Shape := ⟨3, ![1, 512, 1024]⟩
abbrev S1x1x1024 : Shape := ⟨3, ![1, 1, 1024]⟩
abbrev S1x512x512 : Shape := ⟨3, ![1, 512, 512]⟩
abbrev S1x512x256 : Shape := ⟨3, ![1, 512, 256]⟩
abbrev S512x1024 : Shape := ⟨2, ![512, 1024]⟩
abbrev S512x2560 : Shape := ⟨2, ![512, 2560]⟩
abbrev S512x256 : Shape := ⟨2, ![512, 256]⟩
abbrev S1x128x256 : Shape := ⟨3, ![1, 128, 256]⟩

abbrev nBuf : Space → Nat
  | .hbm => 76
  | .vmem => 28
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x2560, .f32⟩
  | .hbm, ⟨5, _⟩ => ⟨S64, .f32⟩
  | .hbm, ⟨6, _⟩ => ⟨S64, .f32⟩
  | .hbm, ⟨7, _⟩ => ⟨S256, .f32⟩
  | .hbm, ⟨8, _⟩ => ⟨S4x128x128, .f32⟩
  | .hbm, ⟨9, _⟩ => ⟨S4x128, .f32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S4x128x128, .i1⟩
  | .hbm, ⟨17, _⟩ => ⟨S_, .f32⟩
  | .hbm, ⟨18, _⟩ => ⟨S4x128x128, .f32⟩
  | .hbm, ⟨19, _⟩ => ⟨S4x128x128, .f32⟩
  | .hbm, ⟨20, _⟩ => ⟨S128x4x128, .f32⟩
  | .hbm, ⟨21, _⟩ => ⟨S128x512, .f32⟩
  | .hbm, ⟨22, _⟩ => ⟨S128x512, .bf16⟩
  | .hbm, ⟨23, _⟩ => ⟨S128x512, .f32⟩
  | .hbm, ⟨24, _⟩ => ⟨S128x512, .f32⟩
  | .hbm, ⟨25, _⟩ => ⟨S128x512, .bf16⟩
  | .hbm, ⟨26, _⟩ => ⟨S1x128x512, .bf16⟩
  | .hbm, ⟨27, _⟩ => ⟨S1x128x512, .bf16⟩
  | .hbm, ⟨28, _⟩ => ⟨S2x128x512, .bf16⟩
  | .hbm, ⟨29, _⟩ => ⟨S128x4, .f32⟩
  | .hbm, ⟨30, _⟩ => ⟨S128x4x64, .f32⟩
  | .hbm, ⟨31, _⟩ => ⟨S128x256, .f32⟩
  | .hbm, ⟨32, _⟩ => ⟨S1x1024, .f32⟩
  | .hbm, ⟨33, _⟩ => ⟨S1024x2560, .bf16⟩
  | .hbm, ⟨34, _⟩ => ⟨S1x64, .f32⟩
  | .hbm, ⟨35, _⟩ => ⟨S8x64, .f32⟩
  | .hbm, ⟨36, _⟩ => ⟨S512, .f32⟩
  | .hbm, ⟨37, _⟩ => ⟨S1x512, .f32⟩
  | .hbm, ⟨38, _⟩ => ⟨S1x64, .f32⟩
  | .hbm, ⟨39, _⟩ => ⟨S8x64, .f32⟩
  | .hbm, ⟨40, _⟩ => ⟨S512, .f32⟩
  | .hbm, ⟨41, _⟩ => ⟨S1x512, .f32⟩
  | .hbm, ⟨42, _⟩ => ⟨S1x256, .f32⟩
  | .hbm, ⟨43, _⟩ => ⟨S512, .i32⟩
  | .hbm, ⟨44, _⟩ => ⟨S_, .i32⟩
  | .hbm, ⟨45, _⟩ => ⟨S_, .i32⟩
  | .hbm, ⟨46, _⟩ => ⟨S512, .i32⟩
  | .hbm, ⟨47, _⟩ => ⟨S512, .i32⟩
  | .hbm, ⟨48, _⟩ => ⟨S512, .i32⟩
  | .hbm, ⟨49, _⟩ => ⟨S_, .i32⟩
  | .hbm, ⟨50, _⟩ => ⟨S512, .i32⟩
  | .hbm, ⟨51, _⟩ => ⟨S512, .i1⟩
  | .hbm, ⟨52, _⟩ => ⟨S512, .i32⟩
  | .hbm, ⟨53, _⟩ => ⟨S512, .i32⟩
  | .hbm, ⟨54, _⟩ => ⟨S_, .i32⟩
  | .hbm, ⟨55, _⟩ => ⟨S512, .i32⟩
  | .hbm, ⟨56, _⟩ => ⟨S512, .i1⟩
  | .hbm, ⟨57, _⟩ => ⟨S512, .i1⟩
  | .hbm, ⟨58, _⟩ => ⟨S_, .i32⟩
  | .hbm, ⟨59, _⟩ => ⟨S512, .i32⟩
  | .hbm, ⟨60, _⟩ => ⟨S512, .i32⟩
  | .hbm, ⟨61, _⟩ => ⟨S512, .i32⟩
  | .hbm, ⟨62, _⟩ => ⟨S512x1, .i32⟩
  | .hbm, ⟨63, _⟩ => ⟨S1x512, .i32⟩
  | .hbm, ⟨64, _⟩ => ⟨S512x512, .i32⟩
  | .hbm, ⟨65, _⟩ => ⟨S512x512, .i32⟩
  | .hbm, ⟨66, _⟩ => ⟨S512x512, .i1⟩
  | .hbm, ⟨67, _⟩ => ⟨S512x512, .f32⟩
  | .hbm, ⟨68, _⟩ => ⟨S512x512, .bf16⟩
  | .hbm, ⟨69, _⟩ => ⟨S4x4096x512, .f32⟩
  | .hbm, ⟨70, _⟩ => ⟨S4x4096x512, .f32⟩
  | .hbm, ⟨71, _⟩ => ⟨S4x4096x512, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S4x4096x256, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2560, .bf16⟩
  | .local _ .vmem, ⟨8, _⟩ => ⟨S1x512, .f32⟩
  | .local _ .vmem, ⟨9, _⟩ => ⟨S1x512, .f32⟩
  | .local _ .vmem, ⟨10, _⟩ => ⟨S1x256, .f32⟩
  | .local _ .vmem, ⟨11, _⟩ => ⟨S512x512, .bf16⟩
  | .local _ .vmem, ⟨12, _⟩ => ⟨S2x128x512, .bf16⟩
  | .local _ .vmem, ⟨13, _⟩ => ⟨S128x256, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | .local _ .vmem, ⟨23, _⟩ => ⟨S1x512x256, .f32⟩
  | .local _ .vmem, ⟨24, _⟩ => ⟨S1x512x256, .f32⟩
  | .local _ .vmem, ⟨25, _⟩ => ⟨S1x512x256, .f32⟩
  | .local _ .vmem, ⟨26, _⟩ => ⟨S1x512x256, .f32⟩
  | .local _ .vmem, ⟨27, _⟩ => ⟨S1x512x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_cst : Ref sig .tc := ⟨.hbm, 17, rfl⟩
abbrev main_call0_v6 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33_0 : Ref sig .tc := ⟨.hbm, 69, rfl⟩
abbrev main_v33_1 : Ref sig .tc := ⟨.hbm, 70, rfl⟩
abbrev main_v33_2 : Ref sig .tc := ⟨.hbm, 71, rfl⟩
abbrev main_v33_3 : Ref sig .tc := ⟨.hbm, 72, rfl⟩
abbrev main_v33_4 : Ref sig .tc := ⟨.hbm, 73, rfl⟩
abbrev main_v33_5 : Ref sig .tc := ⟨.hbm, 74, rfl⟩
abbrev main_v33_6 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference2Ideal.lean ====
abbrev S4x4096x1024 : Shape := ⟨3, ![4, 4096, 1024]⟩
abbrev S4x1x1024 : Shape := ⟨3, ![4, 1, 1024]⟩
abbrev S1024 : Shape := ⟨1, ![1024]⟩
abbrev S1024x2560 : Shape := ⟨2, ![1024, 2560]⟩
abbrev S64 : Shape := ⟨1, ![64]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2560 : Shape := ⟨3, ![4, 4096, 2560]⟩
abbrev S4x4096x512 : Shape := ⟨3, ![4, 4096, 512]⟩
abbrev S4x4096x256 : Shape := ⟨3, ![4, 4096, 256]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S1x1x256 : Shape := ⟨3, ![1, 1, 256]⟩
abbrev S4x32x128x4x64 : Shape := ⟨5, ![4, 32, 128, 4, 64]⟩
abbrev S128x128 : Shape := ⟨2, ![128, 128]⟩
abbrev S4x4x32x64x128 : Shape := ⟨5, ![4, 4, 32, 64, 128]⟩
abbrev S128x4 : Shape := ⟨2, ![128, 4]⟩
abbrev S1x1x128x4x1 : Shape := ⟨5, ![1, 1, 128, 4, 1]⟩

abbrev nBuf : Space → Nat
  | .hbm => 116
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x2560, .f32⟩
  | .hbm, ⟨5, _⟩ => ⟨S64, .f32⟩
  | .hbm, ⟨6, _⟩ => ⟨S64, .f32⟩
  | .hbm, ⟨7, _⟩ => ⟨S256, .f32⟩
  | .hbm, ⟨8, _⟩ => ⟨S4x128x128, .f32⟩
  | .hbm, ⟨9, _⟩ => ⟨S4x128, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x2560, .f32⟩
  | .hbm, ⟨34, _⟩ => ⟨S4x4096x512, .f32⟩
  | .hbm, ⟨35, _⟩ => ⟨S4x4096x512, .f32⟩
  | .hbm, ⟨36, _⟩ => ⟨S4x4096x512, .f32⟩
  | .hbm, ⟨37, _⟩ => ⟨S4x4096x256, .f32⟩
  | .hbm, ⟨38, _⟩ => ⟨S4x4096x256, .f32⟩
  | .hbm, ⟨39, _⟩ => ⟨S4x4096x256, .f32⟩
  | .hbm, ⟨40, _⟩ => ⟨S4x4096x256, .f32⟩
  | .hbm, ⟨41, _⟩ => ⟨S4x4096x8x64, .f32⟩
  | .hbm, ⟨42, _⟩ => ⟨S4x4096x8x64, .f32⟩
  | .hbm, ⟨43, _⟩ => ⟨S_, .f32⟩
  | .hbm, ⟨44, _⟩ => ⟨S4x4096x8, .f32⟩
  | .hbm, ⟨45, _⟩ => ⟨S4x4096x8x1, .f32⟩
  | .hbm, ⟨46, _⟩ => ⟨S_, .f32⟩
  | .hbm, ⟨47, _⟩ => ⟨S4x4096x8x1, .f32⟩
  | .hbm, ⟨48, _⟩ => ⟨S4x4096x8x1, .f32⟩
  | .hbm, ⟨49, _⟩ => ⟨S_, .f32⟩
  | .hbm, ⟨50, _⟩ => ⟨S4x4096x8x1, .f32⟩
  | .hbm, ⟨51, _⟩ => ⟨S4x4096x8x1, .f32⟩
  | .hbm, ⟨52, _⟩ => ⟨S4x4096x8x1, .f32⟩
  | .hbm, ⟨53, _⟩ => ⟨S4x4096x8x64, .f32⟩
  | .hbm, ⟨54, _⟩ => ⟨S4x4096x8x64, .f32⟩
  | .hbm, ⟨55, _⟩ => ⟨S1x1x1x64, .f32⟩
  | .hbm, ⟨56, _⟩ => ⟨S4x4096x8x64, .f32⟩
  | .hbm, ⟨57, _⟩ => ⟨S4x4096x8x64, .f32⟩
  | .hbm, ⟨58, _⟩ => ⟨S_, .f32⟩
  | .hbm, ⟨59, _⟩ => ⟨S4x4096x8x64, .f32⟩
  | .hbm, ⟨60, _⟩ => ⟨S4x4096x8x64, .f32⟩
  | .hbm, ⟨61, _⟩ => ⟨S4x4096x8x64, .f32⟩
  | .hbm, ⟨62, _⟩ => ⟨S4x4096x8x64, .f32⟩
  | .hbm, ⟨63, _⟩ => ⟨S_, .f32⟩
  | .hbm, ⟨64, _⟩ => ⟨S4x4096x8, .f32⟩
  | .hbm, ⟨65, _⟩ => ⟨S4x4096x8x1, .f32⟩
  | .hbm, ⟨66, _⟩ => ⟨S_, .f32⟩
  | .hbm, ⟨67, _⟩ => ⟨S4x4096x8x1, .f32⟩
  | .hbm, ⟨68, _⟩ => ⟨S4x4096x8x1, .f32⟩
  | .hbm, ⟨69, _⟩ => ⟨S_, .f32⟩
  | .hbm, ⟨70, _⟩ => ⟨S4x4096x8x1, .f32⟩
  | .hbm, ⟨71, _⟩ => ⟨S4x4096x8x1, .f32⟩
  | .hbm, ⟨72, _⟩ => ⟨S4x4096x8x1, .f32⟩
  | .hbm, ⟨73, _⟩ => ⟨S4x4096x8x64, .f32⟩
  | .hbm, ⟨74, _⟩ => ⟨S4x4096x8x64, .f32⟩
  | .hbm, ⟨75, _⟩ => ⟨S1x1x1x64, .f32⟩
  | .hbm, ⟨76, _⟩ => ⟨S4x4096x8x64, .f32⟩
  | .hbm, ⟨77, _⟩ => ⟨S4x4096x8x64, .f32⟩
  | .hbm, ⟨78, _⟩ => ⟨S4x4096x256, .f32⟩
  | .hbm, ⟨79, _⟩ => ⟨S_, .f32⟩
  | .hbm, ⟨80, _⟩ => ⟨S4x4096, .f32⟩
  | .hbm, ⟨81, _⟩ => ⟨S4x4096x1, .f32⟩
  | .hbm, ⟨82, _⟩ => ⟨S_, .f32⟩
  | .hbm, ⟨83, _⟩ => ⟨S4x4096x1, .f32⟩
  | .hbm, ⟨84, _⟩ => ⟨S4x4096x1, .f32⟩
  | .hbm, ⟨85, _⟩ => ⟨S_, .f32⟩
  | .hbm, ⟨86, _⟩ => ⟨S4x4096x1, .f32⟩
  | .hbm, ⟨87, _⟩ => ⟨S4x4096x1, .f32⟩
  | .hbm, ⟨88, _⟩ => ⟨S4x4096x1, .f32⟩
  | .hbm, ⟨89, _⟩ => ⟨S4x4096x256, .f32⟩
  | .hbm, ⟨90, _⟩ => ⟨S4x4096x256, .f32⟩
  | .hbm, ⟨91, _⟩ => ⟨S1x1x256, .f32⟩
  | .hbm, ⟨92, _⟩ => ⟨S4x4096x256, .f32⟩
  | .hbm, ⟨93, _⟩ => ⟨S4x4096x256, .f32⟩
  | .hbm, ⟨94, _⟩ => ⟨S4x32x128x4x64, .f32⟩
  | .hbm, ⟨95, _⟩ => ⟨S4x32x128x4x64, .f32⟩
  | .hbm, ⟨96, _⟩ => ⟨S128x128, .i32⟩
  | .hbm, ⟨97, _⟩ => ⟨S_, .i32⟩
  | .hbm, ⟨98, _⟩ => ⟨S128x128, .i32⟩
  | .hbm, ⟨99, _⟩ => ⟨S128x128, .i32⟩
  | .hbm, ⟨100, _⟩ => ⟨S128x128, .i32⟩
  | .hbm, ⟨101, _⟩ => ⟨S128x128, .i1⟩
  | .hbm, ⟨102, _⟩ => ⟨S4x128x128, .i1⟩
  | .hbm, ⟨103, _⟩ => ⟨S_, .f32⟩
  | .hbm, ⟨104, _⟩ => ⟨S4x128x128, .f32⟩
  | .hbm, ⟨105, _⟩ => ⟨S4x128x128, .f32⟩
  | .hbm, ⟨106, _⟩ => ⟨S4x4x32x64x128, .f32⟩
  | .hbm, ⟨107, _⟩ => ⟨S4x32x128x4x64, .f32⟩
  | .hbm, ⟨108, _⟩ => ⟨S128x4, .f32⟩
  | .hbm, ⟨109, _⟩ => ⟨S1x1x128x4x1, .f32⟩
  | .hbm, ⟨110, _⟩ => ⟨S4x32x128x4x64, .f32⟩
  | .hbm, ⟨111, _⟩ => ⟨S4x32x128x4x64, .f32⟩
  | .hbm, ⟨112, _⟩ => ⟨S4x32x128x4x64, .f32⟩
  | .hbm, ⟨113, _⟩ => ⟨S4x4096x256, .f32⟩
  | .hbm, ⟨114, _⟩ => ⟨S4x4096x512, .f32⟩
  | .hbm, ⟨115, _⟩ => ⟨S4x4096x512, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call0_v0 : Ref sig .tc := ⟨.hbm, 96, rfl⟩
abbrev main_call0_c : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_v5 : Ref sig .tc := ⟨.hbm, 102, rfl⟩
abbrev main_call0_cst : Ref sig .tc := ⟨.hbm, 103, rfl⟩
abbrev main_call0_v6 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩

abbrev nD : Nat := 1
abbrev τ : Topo := Topo.v7x

variable {F : FTy → Type} [FloatOps F]
-- ==== Kernel3.lean ====
abbrev S4x4096x512 : Shape := ⟨3, ![4, 4096, 512]⟩
abbrev S4x4096x256 : Shape := ⟨3, ![4, 4096, 256]⟩
abbrev S4x4096x1024 : Shape := ⟨3, ![4, 4096, 1024]⟩
abbrev S4x1x1024 : Shape := ⟨3, ![4, 1, 1024]⟩
abbrev S1024 : Shape := ⟨1, ![1024]⟩
abbrev S1024x1024 : Shape := ⟨2, ![1024, 1024]⟩
abbrev S1x1024 : Shape := ⟨2, ![1, 1024]⟩
abbrev S1x512x512 : Shape := ⟨3, ![1, 512, 512]⟩
abbrev S1x512x256 : Shape := ⟨3, ![1, 512, 256]⟩
abbrev S1x512x1024 : Shape := ⟨3, ![1, 512, 1024]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S512x256 : Shape := ⟨2, ![512, 256]⟩
abbrev S1x256 : Shape := ⟨2, ![1, 256]⟩
abbrev S512x1024 : Shape := ⟨2, ![512, 1024]⟩

abbrev nBuf : Space → Nat
  | .hbm => 20
  | .vmem => 31
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S4x4096x256, .f32⟩
  | .hbm, ⟨7, _⟩ => ⟨S4x4096x256, .f32⟩
  | .hbm, ⟨8, _⟩ => ⟨S4x4096x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1x1024, .f32⟩
  | .hbm, ⟨16, _⟩ => ⟨S1024x1024, .bf16⟩
  | .hbm, ⟨17, _⟩ => ⟨S1x1024, .f32⟩
  | .hbm, ⟨18, _⟩ => ⟨S4x4096x1024, .f32⟩
  | .hbm, ⟨19, _⟩ => ⟨S4x4096x1024, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x1024, .f32⟩
  | .local _ .vmem, ⟨17, _⟩ => ⟨S1x512x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1024, .f32⟩
  | .local _ .vmem, ⟨25, _⟩ => ⟨S1024x1024, .bf16⟩
  | .local _ .vmem, ⟨26, _⟩ => ⟨S1x1024, .f32⟩
  | .local _ .vmem, ⟨27, _⟩ => ⟨S1x512x1024, .f32⟩
  | .local _ .vmem, ⟨28, _⟩ => ⟨S1x512x1024, .f32⟩
  | .local _ .vmem, ⟨29, _⟩ => ⟨S1x512x1024, .bf16⟩
  | .local _ .vmem, ⟨30, _⟩ => ⟨S1x512x1024, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S4x4096x512 : Shape := ⟨3, ![4, 4096, 512]⟩
abbrev S4x4096x256 : Shape := ⟨3, ![4, 4096, 256]⟩
abbrev S4x4096x1024 : Shape := ⟨3, ![4, 4096, 1024]⟩
abbrev S4x1x1024 : Shape := ⟨3, ![4, 1, 1024]⟩
abbrev S1024 : Shape := ⟨1, ![1024]⟩
abbrev S1024x1024 : Shape := ⟨2, ![1024, 1024]⟩
abbrev S1x4x4096x512 : Shape := ⟨4, ![1, 4, 4096, 512]⟩
abbrev S3x4x4096x512 : Shape := ⟨4, ![3, 4, 4096, 512]⟩
abbrev S_ : Shape := ⟨0, ![]⟩
abbrev S512 : Shape := ⟨1, ![512]⟩
abbrev S4x4096 : Shape := ⟨2, ![4, 4096]⟩
abbrev S4x4096x1 : Shape := ⟨3, ![4, 4096, 1]⟩
abbrev S1x1x512 : Shape := ⟨3, ![1, 1, 512]⟩
abbrev S256 : Shape := ⟨1, ![256]⟩
abbrev S1x1x256 : Shape := ⟨3, ![1, 1, 256]⟩
abbrev S1x1x1024 : Shape := ⟨3, ![1, 1, 1024]⟩

abbrev nBuf : Space → Nat
  | .hbm => 120
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S4x4096x256, .f32⟩
  | .hbm, ⟨7, _⟩ => ⟨S4x4096x256, .f32⟩
  | .hbm, ⟨8, _⟩ => ⟨S4x4096x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1x4x4096x512, .f32⟩
  | .hbm, ⟨16, _⟩ => ⟨S1x4x4096x512, .f32⟩
  | .hbm, ⟨17, _⟩ => ⟨S1x4x4096x512, .f32⟩
  | .hbm, ⟨18, _⟩ => ⟨S3x4x4096x512, .f32⟩
  | .hbm, ⟨19, _⟩ => ⟨S_, .f32⟩
  | .hbm, ⟨20, _⟩ => ⟨S4x4096x512, .f32⟩
  | .hbm, ⟨21, _⟩ => ⟨S_, .f32⟩
  | .hbm, ⟨22, _⟩ => ⟨S4x4096x512, .f32⟩
  | .hbm, ⟨23, _⟩ => ⟨S4x4096x512, .f32⟩
  | .hbm, ⟨24, _⟩ => ⟨S1x4x4096x512, .f32⟩
  | .hbm, ⟨25, _⟩ => ⟨S3x4x4096x512, .f32⟩
  | .hbm, ⟨26, _⟩ => ⟨S3x4x4096x512, .f32⟩
  | .hbm, ⟨27, _⟩ => ⟨S3x4x4096x512, .f32⟩
  | .hbm, ⟨28, _⟩ => ⟨S_, .f32⟩
  | .hbm, ⟨29, _⟩ => ⟨S4x4096x512, .f32⟩
  | .hbm, ⟨30, _⟩ => ⟨S1x4x4096x512, .f32⟩
  | .hbm, ⟨31, _⟩ => ⟨S3x4x4096x512, .f32⟩
  | .hbm, ⟨32, _⟩ => ⟨S3x4x4096x512, .f32⟩
  | .hbm, ⟨33, _⟩ => ⟨S1x4x4096x512, .f32⟩
  | .hbm, ⟨34, _⟩ => ⟨S1x4x4096x512, .f32⟩
  | .hbm, ⟨35, _⟩ => ⟨S1x4x4096x512, .f32⟩
  | .hbm, ⟨36, _⟩ => ⟨S3x4x4096x512, .f32⟩
  | .hbm, ⟨37, _⟩ => ⟨S3x4x4096x512, .f32⟩
  | .hbm, ⟨38, _⟩ => ⟨S_, .f32⟩
  | .hbm, ⟨39, _⟩ => ⟨S4x4096x512, .f32⟩
  | .hbm, ⟨40, _⟩ => ⟨S512, .f32⟩
  | .hbm, ⟨41, _⟩ => ⟨S4x4096x512, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1, .f32⟩
  | .hbm, ⟨52, _⟩ => ⟨S4x4096x512, .f32⟩
  | .hbm, ⟨53, _⟩ => ⟨S4x4096x512, .f32⟩
  | .hbm, ⟨54, _⟩ => ⟨S1x1x512, .f32⟩
  | .hbm, ⟨55, _⟩ => ⟨S4x4096x512, .f32⟩
  | .hbm, ⟨56, _⟩ => ⟨S4x4096x512, .f32⟩
  | .hbm, ⟨57, _⟩ => ⟨S256, .f32⟩
  | .hbm, ⟨58, _⟩ => ⟨S4x4096x256, .f32⟩
  | .hbm, ⟨59, _⟩ => ⟨S_, .f32⟩
  | .hbm, ⟨60, _⟩ => ⟨S4x4096, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S_, .f32⟩
  | .hbm, ⟨66, _⟩ => ⟨S4x4096x1, .f32⟩
  | .hbm, ⟨67, _⟩ => ⟨S4x4096x1, .f32⟩
  | .hbm, ⟨68, _⟩ => ⟨S4x4096x1, .f32⟩
  | .hbm, ⟨69, _⟩ => ⟨S4x4096x256, .f32⟩
  | .hbm, ⟨70, _⟩ => ⟨S4x4096x256, .f32⟩
  | .hbm, ⟨71, _⟩ => ⟨S1x1x256, .f32⟩
  | .hbm, ⟨72, _⟩ => ⟨S4x4096x256, .f32⟩
  | .hbm, ⟨73, _⟩ => ⟨S4x4096x256, .f32⟩
  | .hbm, ⟨74, _⟩ => ⟨S256, .f32⟩
  | .hbm, ⟨75, _⟩ => ⟨S4x4096x256, .f32⟩
  | .hbm, ⟨76, _⟩ => ⟨S_, .f32⟩
  | .hbm, ⟨77, _⟩ => ⟨S4x4096, .f32⟩
  | .hbm, ⟨78, _⟩ => ⟨S4x4096x1, .f32⟩
  | .hbm, ⟨79, _⟩ => ⟨S_, .f32⟩
  | .hbm, ⟨80, _⟩ => ⟨S4x4096x1, .f32⟩
  | .hbm, ⟨81, _⟩ => ⟨S4x4096x1, .f32⟩
  | .hbm, ⟨82, _⟩ => ⟨S_, .f32⟩
  | .hbm, ⟨83, _⟩ => ⟨S4x4096x1, .f32⟩
  | .hbm, ⟨84, _⟩ => ⟨S4x4096x1, .f32⟩
  | .hbm, ⟨85, _⟩ => ⟨S4x4096x1, .f32⟩
  | .hbm, ⟨86, _⟩ => ⟨S4x4096x256, .f32⟩
  | .hbm, ⟨87, _⟩ => ⟨S4x4096x256, .f32⟩
  | .hbm, ⟨88, _⟩ => ⟨S1x1x256, .f32⟩
  | .hbm, ⟨89, _⟩ => ⟨S4x4096x256, .f32⟩
  | .hbm, ⟨90, _⟩ => ⟨S4x4096x256, .f32⟩
  | .hbm, ⟨91, _⟩ => ⟨S4x4096x1024, .f32⟩
  | .hbm, ⟨92, _⟩ => ⟨S4x4096x1024, .f32⟩
  | .hbm, ⟨93, _⟩ => ⟨S4x4096x1024, .f32⟩
  | .hbm, ⟨94, _⟩ => ⟨S4x4096x1024, .f32⟩
  | .hbm, ⟨95, _⟩ => ⟨S4x4096x1024, .f32⟩
  | .hbm, ⟨96, _⟩ => ⟨S4x4096x1024, .f32⟩
  | .hbm, ⟨97, _⟩ => ⟨S_, .f32⟩
  | .hbm, ⟨98, _⟩ => ⟨S4x4096, .f32⟩
  | .hbm, ⟨99, _⟩ => ⟨S4x4096x1, .f32⟩
  | .hbm, ⟨100, _⟩ => ⟨S_, .f32⟩
  | .hbm, ⟨101, _⟩ => ⟨S4x4096x1, .f32⟩
  | .hbm, ⟨102, _⟩ => ⟨S4x4096x1, .f32⟩
  | .hbm, ⟨103, _⟩ => ⟨S_, .f32⟩
  | .hbm, ⟨104, _⟩ => ⟨S4x4096x1, .f32⟩
  | .hbm, ⟨105, _⟩ => ⟨S4x4096x1, .f32⟩
  | .hbm, ⟨106, _⟩ => ⟨S4x4096x1, .f32⟩
  | .hbm, ⟨107, _⟩ => ⟨S4x4096x1024, .f32⟩
  | .hbm, ⟨108, _⟩ => ⟨S4x4096x1024, .f32⟩
  | .hbm, ⟨109, _⟩ => ⟨S1x1x1024, .f32⟩
  | .hbm, ⟨110, _⟩ => ⟨S4x4096x1024, .f32⟩
  | .hbm, ⟨111, _⟩ => ⟨S4x4096x1024, .f32⟩
  | .hbm, ⟨112, _⟩ => ⟨S_, .f32⟩
  | .hbm, ⟨113, _⟩ => ⟨S4x1x1024, .f32⟩
  | .hbm, ⟨114, _⟩ => ⟨S4x1x1024, .f32⟩
  | .hbm, ⟨115, _⟩ => ⟨S4x4096x1024, .f32⟩
  | .hbm, ⟨116, _⟩ => ⟨S4x4096x1024, .f32⟩
  | .hbm, ⟨117, _⟩ => ⟨S4x4096x1024, .f32⟩
  | .hbm, ⟨118, _⟩ => ⟨S4x4096x1024, .f32⟩
  | .hbm, ⟨119, _⟩ => ⟨S4x4096x1024, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_12 : Ref sig .tc := ⟨.hbm, 97, rfl⟩
abbrev main_v69 : Ref sig .tc := ⟨.hbm, 98, rfl⟩
abbrev main_v70 : Ref sig .tc := ⟨.hbm, 99, rfl⟩
abbrev main_cst_13 : Ref sig .tc := ⟨.hbm, 100, rfl⟩
abbrev main_v71 : Ref sig .tc := ⟨.hbm, 101, rfl⟩
abbrev main_v72 : Ref sig .tc := ⟨.hbm, 102, rfl⟩
abbrev main_cst_14 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_15 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩

abbrev nD : Nat := 1
abbrev τ : Topo := Topo.v7x

variable {F : FTy → Type} [FloatOps F]
-- ==== Proof.Finite.lean ====
module

public import proofs.«01_k».proof.Pre_finite
public import Idealize.ShloMosaic.Lib.Pipeline.ValueKit
public import Idealize.ShloMosaic.Lib.ReduceAll

@[expose] public section

/-! What the precondition says of the arguments: the entries of the queries, the keys and the table are real numbers. -/

noncomputable section

open Idealize.ShloMosaic

namespace Cert.Pre_finite

instance facts : Facts where
  bcast_S_S4x4096x512 := by decide
  reducesTo_S4x4096x512_S_d0_1_2 := by decide
  h_S_ := by decide
  bcast_S_S32x8 := by decide
  reducesTo_S32x8_S_d0_1 := by decide

theorem ofBits_top : Ideal.ofBits .f32 0x7F800000#32 = ⊤ := by
  simp [Ideal.ofBits, Ideal.ieee]

theorem real_of_lt (x : EReal) (h : FloatOps.cmpf (F := Ideal) (φ := .f32) .olt (max x (-x)) (Ideal.ofBits .f32 0x7F800000#32) = 1#1) :
    ∃ r : ℝ, x = r := by
  rw [ofBits_top] at h
  induction x with
  | bot => exact absurd h (by change ¬ Ideal.cmp .olt _ _ = 1#1; simp [Ideal.cmp])
  | top => exact absurd h (by change ¬ Ideal.cmp .olt _ _ = 1#1; simp [Ideal.cmp])
  | coe r => exact ⟨r, rfl⟩

theorem reals {q k v : FVec Ideal S4x4096x512 .f32} {t : FVec Ideal S32x8 .f32} (h : fn (F := Ideal) q k v t = fun _ => 1#1) :
    (∀ i, ∃ r : ℝ, q i = r) ∧ (∀ i, ∃ r : ℝ, k i = r) ∧ (∀ i, ∃ r : ℝ, t i = r) := by
  haveI : Subsingleton S_.Idx := ⟨fun a b => funext fun i => i.elim0⟩
  have e := congrFun h (fun i => i.elim0)
  unfold fn at e
  obtain ⟨e1, et⟩ := IntOp.andi_eq_one.1 e
  obtain ⟨eq, ek⟩ := IntOp.andi_eq_one.1 e1
  exact ⟨fun i => real_of_lt _ (Host.reduce_andi_all _ _ _ _ _ eq i), fun i => real_of_lt _ (Host.reduce_andi_all _ _ _ _ _ ek i),
    fun i => real_of_lt _ (Host.reduce_andi_all _ _ _ _ _ et i)⟩

end Cert.Pre_finite

end
-- ==== Proof.Softmax.lean ====
module

public import Idealize.ShloMosaic.Lib.Pipeline.ValueKit

/-! What the kernel and the reference have in common: a row of scores over the extended reals, its normaliser, its
    weights, and the reductions of rank-6 arrays along their last axis. -/

@[expose] public section

noncomputable section

open Idealize.ShloMosaic

namespace Cert.Softmax

/-! ## Reductions along the last axis of six -/

variable {n0 n1 n2 n3 n4 n5 : ℕ}

/-- The dropped index with its last coordinate put back. -/
theorem lift_last (h : (⟨6, ![n0, n1, n2, n3, n4, n5]⟩ : Shape).Reduces [5] ⟨5, ![n0, n1, n2, n3, n4]⟩)
    (a : Fin n0) (b : Fin n1) (c : Fin n2) (d : Fin n3) (e : Fin n4) (k : Fin n5) :
    h.lift (ix5 a b c d e) k = ix6 a b c d e k := by
  funext x
  apply Fin.ext
  match x with
  | ⟨0, _⟩ => rfl
  | ⟨1, _⟩ => rfl
  | ⟨2, _⟩ => rfl
  | ⟨3, _⟩ => rfl
  | ⟨4, _⟩ => rfl
  | ⟨5, _⟩ => rfl

/-- The shape six axes leave when their last is summed away. -/
theorem reduces_last : (⟨6, ![n0, n1, n2, n3, n4, n5]⟩ : Shape).Reduces [5] ⟨5, ![n0, n1, n2, n3, n4]⟩ := by
  refine ⟨rfl, Nat.succ_pos _, ?_⟩
  intro b
  match b with
  | ⟨0, _⟩ => rfl
  | ⟨1, _⟩ => rfl
  | ⟨2, _⟩ => rfl
  | ⟨3, _⟩ => rfl
  | ⟨4, _⟩ => rfl

/-- A host sum over the last of six axes. -/
theorem sum_last (h : (⟨6, ![n0, n1, n2, n3, n4, n5]⟩ : Shape).ReducesTo [5] ⟨5, ![n0, n1, n2, n3, n4]⟩)
    (x : (⟨6, ![n0, n1, n2, n3, n4, n5]⟩ : Shape).Idx → EReal) (init : EReal)
    (a : Fin n0) (b : Fin n1) (c : Fin n2) (d : Fin n3) (e : Fin n4) :
    Ideal.hostReduceAdd h x init (ix5 a b c d e) = init + ∑ k : Fin n5, x (ix6 a b c d e k) := by
  rw [Ideal.hostReduceAdd_single h reduces_last]
  exact congrArg (init + ·) (Finset.sum_congr rfl fun k _ => congrArg x (lift_last _ a b c d e k))

/-- A host maximum over the last of six axes. -/
theorem max_last {u : Shape} (h : (⟨6, ![n0, n1, n2, n3, n4, n5]⟩ : Shape).ReducesTo [5] ⟨5, ![n0, n1, n2, n3, n4]⟩)
    (x : FVec Ideal ⟨6, ![n0, n1, n2, n3, n4, n5]⟩ .f32) (init : FVec Ideal u .f32) (hu : 0 < u.numel)
    (a : Fin n0) (b : Fin n1) (c : Fin n2) (d : Fin n3) (e : Fin n4) :
    Host.reduce FloatOps.maximumf x init h hu (ix5 a b c d e)
      = (Finset.univ : Finset (Fin n5)).fold max (init (Shape.Idx.first hu)) fun k => x (ix6 a b c d e k) := by
  rw [Host.reduce_eq_fold_single _ x init h reduces_last hu]
  exact Finset.fold_congr fun k _ => congrArg x (lift_last _ a b c d e k)

/-! ## Operations at an index -/

theorem ix3_eq {a a' : Fin n0} {b b' : Fin n1} {c c' : Fin n2} (ha : (a : ℕ) = a') (hb : (b : ℕ) = b') (hc : (c : ℕ) = c') :
    ix3 a b c = ix3 a' b' c' := by
  rw [Fin.ext ha, Fin.ext hb, Fin.ext hc]

theorem ix5_eq {a a' : Fin n0} {b b' : Fin n1} {c c' : Fin n2} {d d' : Fin n3} {e e' : Fin n4}
    (ha : (a : ℕ) = a') (hb : (b : ℕ) = b') (hc : (c : ℕ) = c') (hd : (d : ℕ) = d') (he : (e : ℕ) = e') :
    ix5 a b c d e = ix5 a' b' c' d' e' := by
  rw [Fin.ext ha, Fin.ext hb, Fin.ext hc, Fin.ext hd, Fin.ext he]

theorem ix6_eq {a a' : Fin n0} {b b' : Fin n1} {c c' : Fin n2} {d d' : Fin n3} {e e' : Fin n4} {f f' : Fin n5}
    (ha : (a : ℕ) = a') (hb : (b : ℕ) = b') (hc : (c : ℕ) = c') (hd : (d : ℕ) = d') (he : (e : ℕ) = e') (hf : (f : ℕ) = f') :
    ix6 a b c d e f = ix6 a' b' c' d' e' f' := by
  rw [Fin.ext ha, Fin.ext hb, Fin.ext hc, Fin.ext hd, Fin.ext he, Fin.ext hf]

variable {s : Shape}

theorem addf_at (x y : FVec Ideal s .f32) (i : s.Idx) : addf x y i = x i + y i := rfl
theorem subf_at (x y : FVec Ideal s .f32) (i : s.Idx) : subf x y i = x i - y i := rfl
theorem mulf_at (x y : FVec Ideal s .f32) (i : s.Idx) : mulf x y i = x i * y i := rfl
theorem exp_at (x : FVec Ideal s .f32) (i : s.Idx) : Host.exp x i = Ideal.exp (x i) := rfl
theorem log_at (x : FVec Ideal s .f32) (i : s.Idx) : Host.log x i = Ideal.log (x i) := rfl
theorem andi_at {w : ℕ} (x y : IVec s w) (i : s.Idx) : andi x y i = IntOp.andi (x i) (y i) := rfl
theorem select_at (c : IVec s 1) (x y : FVec Ideal s .f32) (i : s.Idx) : select c x y i = Scalar.select (c i) (x i) (y i) := rfl

/-! ## A row of scores -/

/-- A row's largest score. -/
def top (z : Fin 256 → EReal) : EReal := Finset.univ.fold max ⊥ z

/-- A row's sum of exponentials, taken against its largest score. -/
def total (z : Fin 256 → EReal) : EReal := ∑ j, Ideal.exp (z j - top z)

/-- A row's normaliser. -/
def norm (z : Fin 256 → EReal) : EReal := top z + Ideal.log (total z)

/-- The row's weighted mean, the weights divided out last. -/
def mean (z y : Fin 256 → EReal) : EReal := Ideal.div (∑ j, Ideal.exp (z j - top z) * y j) (total z)

theorem le_top (z : Fin 256 → EReal) (j : Fin 256) : z j ≤ top z := by
  unfold top
  rw [Finset.le_fold_max]
  exact Or.inr ⟨j, Finset.mem_univ j, le_rfl⟩

theorem top_ne_top {z : Fin 256 → EReal} (h : ∀ j, z j ≠ ⊤) : top z ≠ ⊤ := by
  rw [← lt_top_iff_ne_top]
  unfold top
  rw [Finset.fold_max_lt]
  exact ⟨bot_lt_top, fun j _ => lt_top_iff_ne_top.2 (h j)⟩

/-- Against a real number, an exponential is that of a difference of reals, or zero. -/
theorem exp_sub {a : EReal} (ha : a ≠ ⊤) (x : ℝ) :
    ∃ r : ℝ, 0 ≤ r ∧ ∀ y : ℝ, Ideal.exp (a - (x + y : ℝ)) = ((r * Real.exp (-y) : ℝ) : EReal) := by
  induction a with
  | top => exact absurd rfl ha
  | bot => exact ⟨0, le_rfl, fun y => by simp [sub_eq_add_neg]⟩
  | coe a =>
    refine ⟨Real.exp (a - x), (Real.exp_pos _).le, fun y => ?_⟩
    rw [← EReal.coe_sub, Ideal.exp_coe, ← Real.exp_add]
    congr 2; ring

/-- A sum of real numbers, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of finite numbers is finite. -/
theorem dot_real {n : ℕ} {f g : Fin n → EReal} (hf : ∀ i, ∃ r : ℝ, f i = r) (hg : ∀ i, ∃ r : ℝ, g i = r) :
    ∃ r : ℝ, ∑ i, f i * g i = (r : EReal) := by
  choose a ha using hf
  choose b hb using hg
  refine ⟨∑ i, a i * b i, ?_⟩
  rw [coe_sum]
  exact Finset.sum_congr rfl fun i _ => by rw [ha, hb, EReal.coe_mul]

/-- A nonnegative real distributes over a sum of extended reals. -/
theorem sum_mul_real {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- A scale moves from one factor out of a sum of products. -/
theorem dot_scale {n : ℕ} (f g : Fin n → EReal) {r : ℝ} (hr : 0 ≤ r) :
    ∑ i, f i * (r : EReal) * g i = (∑ i, f i * g i) * (r : EReal) := by
  rw [sum_mul_real _ _ hr]
  exact Finset.sum_congr rfl fun i _ => mul_right_comm _ _ _

/-- Weights that subtract the normaliser are the exponentials against the row's largest score over their sum. -/
theorem mean_eq {z : Fin 256 → EReal} (hz : ∀ j, z j ≠ ⊤) (hb : ∃ j, z j ≠ ⊥) (y : Fin 256 → EReal) :
    ∑ j, y j * Ideal.exp (z j - norm z) = mean z y := by
  obtain ⟨j₀, hj₀⟩ := hb
  obtain ⟨t, ht⟩ : ∃ t : ℝ, top z = t := by
    have hb : top z ≠ ⊥ := fun e => hj₀ (le_bot_iff.1 (e ▸ le_top z j₀))
    exact ⟨(top z).toReal, (EReal.coe_toReal (top_ne_top hz) hb).symm⟩
  choose r hr he using fun j => exp_sub (hz j) t
  have he0 : ∀ j, Ideal.exp (z j - top z) = (r j : EReal) := fun j => by
    have := he j 0
    simpa [ht] using this
  have hS : total z = ((∑ j, r j : ℝ) : EReal) := by
    unfold total
    rw [coe_sum]
    exact Finset.sum_congr rfl fun j _ => he0 j
  have hpos : 0 < ∑ j, r j := by
    refine Finset.sum_pos' (fun j _ => hr j) ⟨j₀, Finset.mem_univ _, ?_⟩
    have h := he0 j₀
    rw [ht] at h
    lift z j₀ to ℝ using ⟨hz j₀, hj₀⟩ with a
    rw [← EReal.coe_sub, Ideal.exp_coe] at h
    rw [← EReal.coe_eq_coe_iff.1 h]
    exact Real.exp_pos _
  have hn : norm z = ((t + Real.log (∑ j, r j) : ℝ) : EReal) := by
    unfold norm
    rw [hS, ht, Ideal.log_coe, if_neg hpos.not_ge, EReal.coe_add]
  unfold mean
  rw [hS, Ideal.div_coe hpos.ne', sum_mul_real _ _ (by positivity)]
  refine Finset.sum_congr rfl fun j _ => ?_
  rw [hn, he j, he0 j, Real.exp_neg, Real.exp_log hpos, EReal.coe_mul, one_div, mul_comm, mul_right_comm]

end Cert.Softmax

end
-- ==== Proof.Row.lean ====
module

public import Idealize.ShloMosaic.Lib.Pipeline.ValueKit
public import proofs.«01_k».proof.Proof.Softmax

/-! A grid point's arithmetic, written out on its blocks: the queries' block `x0`, the keys' block before it and its own
    `x1 x2`, the values' `x3 x4`, the bias `x5`. -/

@[expose] public section

set_option maxRecDepth 16384

noncomputable section

open Idealize.ShloMosaic

namespace Cert.Row

/-- A block of rows. -/
abbrev Blk := Vec Ideal ⟨3, ![1, 128, 512]⟩ .f32

/-- The bias of every head. -/
abbrev Bias := Vec Ideal ⟨3, ![8, 128, 256]⟩ .f32

variable (n : ℕ) (μ : EReal) (x0 x1 x2 x3 x4 : Blk) (x5 : Bias)

/-- Two blocks, one behind the other. -/
def col (a b : Blk) (j : Fin 256) (e : Fin 512) : EReal :=
  if h : (j : ℕ) < 128 then a (ix3 0 ⟨j, h⟩ e) else b (ix3 0 ⟨(j : ℕ) - 128, by omega⟩ e)

/-- A head's lane. -/
abbrev lane (h : Fin 8) (e : Fin 64) : Fin 512 := ⟨64 * h + e, by omega⟩

/-- A score: `μ` in the first block's first half. -/
def score (h : Fin 8) (r : Fin 128) (j : Fin 256) : EReal :=
  Scalar.select (IntOp.andi (Scalar.cmpi .eq (BitVec.ofNat 32 n) 0#32) (IntOp.cmpi .slt (BitVec.ofNat 32 ↑j) 128#32)) μ
    ((∑ e : Fin 64, x0 (ix3 0 r (lane h e)) * col x1 x2 j (lane h e)) + x5 (ix3 h r j))

/-- The largest score of a row. -/
def peak (h : Fin 8) (r : Fin 128) : EReal :=
  Finset.univ.fold max (Ideal.ofBits .f32 0xFF800000#32) fun j : Fin 256 => score n μ x0 x1 x2 x5 h r j

/-- The row's sum of exponentials. -/
def den (h : Fin 8) (r : Fin 128) : EReal :=
  ∑ j : Fin 256, Ideal.exp (score n μ x0 x1 x2 x5 h r j - peak n μ x0 x1 x2 x5 h r)

/-- The first result. -/
def mid (h : Fin 8) (r : Fin 128) (e : Fin 64) : EReal :=
  Ideal.div (∑ j : Fin 256, Ideal.exp (score n μ x0 x1 x2 x5 h r j - peak n μ x0 x1 x2 x5 h r) * col x3 x4 j (lane h e))
    (den n μ x0 x1 x2 x5 h r)

/-- The second result. -/
def nrm (h : Fin 8) (r : Fin 128) : EReal :=
  peak n μ x0 x1 x2 x5 h r + Ideal.log (den n μ x0 x1 x2 x5 h r)

theorem ofBits_bot : Ideal.ofBits .f32 0xFF800000#32 = ⊥ := by
  simp [Ideal.ofBits, Ideal.ieee]

theorem ofBits_eighth : Ideal.ofBits .f32 0x3E000000#32 = (((1 : ℝ) / 8 : ℝ) : EReal) := by
  simp [Ideal.ofBits, Ideal.ieee, -EReal.coe_mul]; norm_num

theorem peak_eq (h : Fin 8) (r : Fin 128) :
    peak n μ x0 x1 x2 x5 h r = Softmax.top (score n μ x0 x1 x2 x5 h r) := by
  unfold peak Softmax.top
  rw [ofBits_bot]

theorem den_eq (h : Fin 8) (r : Fin 128) :
    den n μ x0 x1 x2 x5 h r = Softmax.total (score n μ x0 x1 x2 x5 h r) := by
  unfold den Softmax.total
  rw [peak_eq]

theorem mid_eq (h : Fin 8) (r : Fin 128) (e : Fin 64) :
    mid n μ x0 x1 x2 x3 x4 x5 h r e
      = Softmax.mean (score n μ x0 x1 x2 x5 h r) fun j => col x3 x4 j (lane h e) := by
  unfold mid Softmax.mean
  rw [peak_eq, den_eq]

theorem nrm_eq (h : Fin 8) (r : Fin 128) :
    nrm n μ x0 x1 x2 x5 h r = Softmax.norm (score n μ x0 x1 x2 x5 h r) := by
  unfold nrm Softmax.norm
  rw [peak_eq, den_eq]

end Cert.Row

end
-- ==== Proof.Heads1.lean ====
module

public import proofs.«01_k».proof.Proof.Gen.KernelIdeal.Frame
public import proofs.«01_k».proof.Proof.Row

/-! What a grid point of `KernelIdeal` writes back, head by head, at an index. -/

@[expose] public section

set_option maxRecDepth 16384

noncomputable section

open Idealize.ShloMosaic Idealize.ShloMosaic.TcCoe Idealize.SL.Sem

namespace Cert.KernelIdeal.Heads

open Cert.KernelIdeal Cert.KernelIdeal.Gen Cert.Row

variable (i : grid0.Coords) (x0 x1 x2 x3 x4 : Vec Ideal S1x128x512 .f32) (x5 : Vec Ideal S8x128x256 .f32)

/-- The constant the kernel masks a score with. -/
abbrev mask : EReal := Named.named (F := Ideal) (φ := .f32) κ "mask" 0xF149F2CA#32

set_option maxHeartbeats 4000000 in
/-- Result 0 of a grid point. -/
theorem out0_at (h : Fin 8) (r : Fin 128) (e : Fin 64) (y : S1x128x512.Idx) (hy1 : (y 1 : ℕ) = r) (hy2 : (y 2 : ℕ) = 64 * h + e) :
    out0_6 (F := Ideal) i x0 x1 x2 x3 x4 x5 y = mid (i 2) mask x0 x1 x2 x3 x4 x5 h r e := by
  unfold out0_6
  canon_tiles x g
  case piece0 =>
    obtain rfl : h = 7 := by ext; omega
    obtain rfl : r = x 1 := by ext; omega
    obtain rfl : e = x 2 := by ext; omega
    open_payloads; pointwise [mid, den, peak, score, col, lane]
  case piece1 =>
    obtain rfl : h = 6 := by ext; omega
    obtain rfl : r = x 1 := by ext; omega
    obtain rfl : e = x 2 := by ext; omega
    open_payloads; pointwise [mid, den, peak, score, col, lane]
  case piece2 =>
    obtain rfl : h = 5 := by ext; omega
    obtain rfl : r = x 1 := by ext; omega
    obtain rfl : e = x 2 := by ext; omega
    open_payloads; pointwise [mid, den, peak, score, col, lane]
  case piece3 =>
    obtain rfl : h = 4 := by ext; omega
    obtain rfl : r = x 1 := by ext; omega
    obtain rfl : e = x 2 := by ext; omega
    open_payloads; pointwise [mid, den, peak, score, col, lane]
  case piece4 =>
    obtain rfl : h = 3 := by ext; omega
    obtain rfl : r = x 1 := by ext; omega
    obtain rfl : e = x 2 := by ext; omega
    open_payloads; pointwise [mid, den, peak, score, col, lane]
  case piece5 =>
    obtain rfl : h = 2 := by ext; omega
    obtain rfl : r = x 1 := by ext; omega
    obtain rfl : e = x 2 := by ext; omega
    open_payloads; pointwise [mid, den, peak, score, col, lane]
  case piece6 =>
    obtain rfl : h = 1 := by ext; omega
    obtain rfl : r = x 1 := by ext; omega
    obtain rfl : e = x 2 := by ext; omega
    open_payloads; pointwise [mid, den, peak, score, col, lane]
  case piece7 =>
    obtain rfl : h = 0 := by ext; omega
    obtain rfl : r = x 1 := by ext; omega
    obtain rfl : e = x 2 := by ext; omega
    open_payloads; pointwise [mid, den, peak, score, col, lane]

set_option maxHeartbeats 4000000 in
/-- Result 1 of a grid point. -/
theorem out1_at (h : Fin 8) (r : Fin 128) (e : Fin 64) (y : S1x128x512.Idx) (hy1 : (y 1 : ℕ) = r) (hy2 : (y 2 : ℕ) = 64 * h + e) :
    out0_7 (F := Ideal) i x0 x1 x2 x3 x4 x5 y = nrm (i 2) mask x0 x1 x2 x5 h r := by
  unfold out0_7
  canon_tiles x g
  case piece0 =>
    obtain rfl : h = 7 := by ext; omega
    obtain rfl : r = x 1 := by ext; omega
    obtain rfl : e = x 2 := by ext; omega
    open_payloads; pointwise [nrm, den, peak, score, col, lane]
  case piece1 =>
    obtain rfl : h = 6 := by ext; omega
    obtain rfl : r = x 1 := by ext; omega
    obtain rfl : e = x 2 := by ext; omega
    open_payloads; pointwise [nrm, den, peak, score, col, lane]
  case piece2 =>
    obtain rfl : h = 5 := by ext; omega
    obtain rfl : r = x 1 := by ext; omega
    obtain rfl : e = x 2 := by ext; omega
    open_payloads; pointwise [nrm, den, peak, score, col, lane]
  case piece3 =>
    obtain rfl : h = 4 := by ext; omega
    obtain rfl : r = x 1 := by ext; omega
    obtain rfl : e = x 2 := by ext; omega
    open_payloads; pointwise [nrm, den, peak, score, col, lane]
  case piece4 =>
    obtain rfl : h = 3 := by ext; omega
    obtain rfl : r = x 1 := by ext; omega
    obtain rfl : e = x 2 := by ext; omega
    open_payloads; pointwise [nrm, den, peak, score, col, lane]
  case piece5 =>
    obtain rfl : h = 2 := by ext; omega
    obtain rfl : r = x 1 := by ext; omega
    obtain rfl : e = x 2 := by ext; omega
    open_payloads; pointwise [nrm, den, peak, score, col, lane]
  case piece6 =>
    obtain rfl : h = 1 := by ext; omega
    obtain rfl : r = x 1 := by ext; omega
    obtain rfl : e = x 2 := by ext; omega
    open_payloads; pointwise [nrm, den, peak, score, col, lane]
  case piece7 =>
    obtain rfl : h = 0 := by ext; omega
    obtain rfl : r = x 1 := by ext; omega
    obtain rfl : e = x 2 := by ext; omega
    open_payloads; pointwise [nrm, den, peak, score, col, lane]

end Cert.KernelIdeal.Heads

end
-- ==== Proof.Stage1.lean ====
module

public import proofs.«01_k».proof.Proof.Gen.ReferenceIdeal.Run
public import Idealize.ShloMosaic.Lib.Pipeline.ValueKit
public import proofs.«01_k».proof.Proof.Row

@[expose] public section

/-! The reference program of the branch with 1 phase, cut into stages and read at an index. -/

set_option maxRecDepth 16384

noncomputable section

open Idealize.ShloMosaic Idealize.ShloMosaic.TcCoe Idealize.SL.Sem

namespace Cert.ReferenceIdeal.Stage

open Cert.ReferenceIdeal Cert.ReferenceIdeal.Gen Cert.ReferenceIdeal.Value

/-- An argument cut into phases and blocks of 128 rows, heads apart. -/
def blocks (x : FVec Ideal S4x4096x512 .f32) : FVec Ideal S4x1x32x128x8x64 .f32 :=
  shapeCast _ (pad S4x1x4096x8x64 ![0, 0, 0, 0, 0] ![0, 0, 0, 0, 0] ![0, 0, 0, 0, 0] (transpose S4x1x4096x8x64 [0, 2, 1, 3, 4] (shapeCast _ (shapeCast _ x shapeCasts_S4x4096x512_S4x4096x8x64) shapeCasts_S4x4096x8x64_S4x4096x1x8x64) transposes_S4x4096x1x8x64_S4x1x4096x8x64_0_2_1_3_4) (sitofp .f32 (constantI S_ 32 0#32)) pads_S4x1x4096x8x64_S4x1x4096x8x64_000_000_000_000_000 h_S_) shapeCasts_S4x1x4096x8x64_S4x1x32x128x8x64

/-- The blocks, each behind the one before it; the first behind zeros. -/
def windows (x : FVec Ideal S4x4096x512 .f32) : FVec Ideal S4x1x32x256x8x64 .f32 :=
  concatenate S4x1x32x256x8x64 3 [⟨S4x1x32x128x8x64, pad S4x1x32x128x8x64 ![0, 0, 1, 0, 0, 0] ![0, 0, 0, 0, 0, 0] ![0, 0, 0, 0, 0, 0] (extractStridedSlice S4x1x31x128x8x64 ![0, 0, 0, 0, 0, 0] (blocks x) slices_S4x1x32x128x8x64_S4x1x31x128x8x64_0_0_0_0_0_0) (sitofp .f32 (constantI S_ 32 0#32)) pads_S4x1x31x128x8x64_S4x1x32x128x8x64_000_000_100_000_000_000 h_S_⟩, ⟨S4x1x32x128x8x64, blocks x⟩] concatenates_S4x1x32x128x8x64_S4x1x32x128x8x64_S4x1x32x256x8x64_d3

/-- The distance from a key's column to a query's row. -/
def dist : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

/-- The distance lies in the window. -/
def near : IVec S128x256 1 :=
  andi (cmpi .sge dist (broadcastInDim S128x256 ![] bcast_S_S128x256 (constantI S_ 32 0#32))) (cmpi .sle dist (broadcastInDim S128x256 ![] bcast_S_S128x256 (constantI S_ 32 128#32)))

/-- The distance lies in the window and the key exists. -/
def valid : IVec S32x128x256 1 :=
  andi (broadcastInDim S32x128x256 ![0, 1, 2] bcast_S1x128x256_S32x128x256_0_1_2 (broadcastInDim S1x128x256 ![1, 2] bcast_S128x256_S1x128x256_1_2 near)) (broadcastInDim S32x128x256 ![0, 1, 2] bcast_S32x1x256_S32x128x256_0_1_2 (cmpi .sge (addi (broadcastInDim S32x1x256 ![0, 1, 2] bcast_S32x1x1_S32x1x256_0_1_2 (subi (muli (broadcastInDim S32x1x1 ![0] bcast_S32_S32x1x1_0 (iotaInDim S32 32 0)) (broadcastInDim S32x1x1 ![] bcast_S_S32x1x1 (constantI S_ 32 128#32))) (broadcastInDim S32x1x1 ![] bcast_S_S32x1x1 (constantI S_ 32 128#32)))) (broadcastInDim S32x1x256 ![0, 1, 2] bcast_S1x1x256_S32x1x256_0_1_2 (broadcastInDim S1x1x256 ![1, 2] bcast_S1x256_S1x1x256_1_2 (broadcastInDim S1x256 ![1] bcast_S256_S1x256_1 (iotaInDim S256 32 0))))) (broadcastInDim S32x1x256 ![] bcast_S_S32x1x256 (constantI S_ 32 0#32))))

/-- The distance in rows of the sequence. -/
def steps : IVec S128x256 32 :=
  muli (maxsi dist (broadcastInDim S128x256 ![] bcast_S_S128x256 (constantI S_ 32 0#32))) (broadcastInDim S128x256 ![] bcast_S_S128x256 (constantI S_ 32 1#32))

/-- The bucket of a distance. -/
def bucket : IVec S128x256 32 :=
  select (cmpi .slt steps (broadcastInDim S128x256 ![] bcast_S_S128x256 (constantI S_ 32 16#32))) steps (minsi (addi (broadcastInDim S128x256 ![] bcast_S_S128x256 (constantI S_ 32 16#32)) (fptosi 32 (mulf (Host.divf (Host.log (Host.divf (sitofp .f32 (maxsi steps (broadcastInDim S128x256 ![] bcast_S_S128x256 (constantI S_ 32 1#32)))) (broadcastInDim S128x256 ![] bcast_S_S128x256 (constant S_ .f32 0x41800000#32)))) (broadcastInDim S128x256 ![] bcast_S_S128x256 (constant S_ .f32 0x409B43D5#32))) (broadcastInDim S128x256 ![] bcast_S_S128x256 (constant S_ .f32 0x41800000#32)) : FVec Ideal S128x256 .f32))) (broadcastInDim S128x256 ![] bcast_S_S128x256 (constantI S_ 32 31#32)))

/-- The bucket, wrapped as an index is. -/
def row : IVec S128x256 32 :=
  select (cmpi .slt bucket (broadcastInDim S128x256 ![] bcast_S_S128x256 (constantI S_ 32 0#32))) (addi bucket (broadcastInDim S128x256 ![] bcast_S_S128x256 (constantI S_ 32 32#32))) bucket

/-- The table's entries at the buckets, heads first. -/
def table (t : FVec Ideal S32x8 .f32) : FVec Ideal S8x128x256 .f32 :=
  transpose S8x128x256 [2, 0, 1] (Host.gather gather_S32x8_S128x256x1_S128x256x8_2_0_n_n_0_2_18 t (broadcastInDim S128x256x1 ![0, 1] bcast_S128x256_S128x256x1_0_1 row)) transposes_S128x256x8_S8x128x256_2_0_1

/-- The scores. -/
def logits (q k : FVec Ideal S4x4096x512 .f32) (t : FVec Ideal S32x8 .f32) : FVec Ideal S4x1x32x8x128x256 .f32 :=
  select (broadcastInDim S4x1x32x8x128x256 ![2, 3, 4, 5] bcast_S32x1x128x256_S4x1x32x8x128x256_2_3_4_5 (broadcastInDim S32x1x128x256 ![0, 2, 3] bcast_S32x128x256_S32x1x128x256_0_2_3 valid)) (addf (mulf (Host.dotGeneral dot_S4x1x32x128x8x64_S4x1x32x256x8x64_S4x1x32x8x128x256_5_5_3_3_0124_0124 none (blocks q) (windows k)) (broadcastInDim S4x1x32x8x128x256 ![] bcast_S_S4x1x32x8x128x256 (constant S_ .f32 0x3E000000#32))) (broadcastInDim S4x1x32x8x128x256 ![0, 1, 2, 3, 4, 5] bcast_S1x1x1x8x128x256_S4x1x32x8x128x256_0_1_2_3_4_5 (broadcastInDim S1x1x1x8x128x256 ![3, 4, 5] bcast_S8x128x256_S1x1x1x8x128x256_3_4_5 (table t)))) (broadcastInDim S4x1x32x8x128x256 ![] bcast_S_S4x1x32x8x128x256 (constant S_ .f32 0xFF800000#32))

/-- The largest score of a row. -/
def top (z : FVec Ideal S4x1x32x8x128x256 .f32) : FVec Ideal S4x1x32x8x128 .f32 :=
  Host.reduce FloatOps.maximumf z (constant S_ .f32 0xFF800000#32) reducesTo_S4x1x32x8x128x256_S4x1x32x8x128_d5 h_S_

/-- A row's value, once per column. -/
def spread (z : FVec Ideal S4x1x32x8x128 .f32) : FVec Ideal S4x1x32x8x128x256 .f32 :=
  broadcastInDim S4x1x32x8x128x256 ![0, 1, 2, 3, 4, 5] bcast_S4x1x32x8x128x1_S4x1x32x8x128x256_0_1_2_3_4_5 (broadcastInDim S4x1x32x8x128x1 ![0, 1, 2, 3, 4] bcast_S4x1x32x8x128_S4x1x32x8x128x1_0_1_2_3_4 z)

/-- A row's sum of exponentials. -/
def total (z : FVec Ideal S4x1x32x8x128x256 .f32) : FVec Ideal S4x1x32x8x128 .f32 :=
  Host.reduceAdd (Host.exp z) (constant S_ .f32 0x00000000#32) reducesTo_S4x1x32x8x128x256_S4x1x32x8x128_d5 h_S_

/-- A row's normaliser. -/
def norm (z : FVec Ideal S4x1x32x8x128x256 .f32) : FVec Ideal S4x1x32x8x128 .f32 :=
  addf (top z) (Host.log (total (subf z (spread (top z)))))

/-- The weighted values. -/
def weigh (v : FVec Ideal S4x4096x512 .f32) (z : FVec Ideal S4x1x32x8x128x256 .f32) : FVec Ideal S4x1x32x128x8x64 .f32 :=
  transpose S4x1x32x128x8x64 [0, 1, 2, 5, 3, 4] (Host.dotGeneral dot_S4x1x32x256x8x64_S4x1x32x8x128x256_S4x1x32x8x64x128_3_5_5_4_0124_0123 none (windows v) (Host.exp (subf z (spread (norm z))))) transposes_S4x1x32x8x64x128_S4x1x32x128x8x64_0_1_2_5_3_4

/-- The first result of the weighted values. -/
def out0 (w : FVec Ideal S4x1x32x128x8x64 .f32) : FVec Ideal S4x4096x512 .f32 :=
  shapeCast _ (shapeCast _ (transpose S4x4096x1x8x64 [0, 2, 1, 3, 4] (shapeCast _ w shapeCasts_S4x1x32x128x8x64_S4x1x4096x8x64) transposes_S4x1x4096x8x64_S4x4096x1x8x64_0_2_1_3_4) shapeCasts_S4x4096x1x8x64_S4x4096x8x64) shapeCasts_S4x4096x8x64_S4x4096x512

/-- The second result of the rows' normalisers. -/
def out1 (z : FVec Ideal S4x1x32x8x128 .f32) : FVec Ideal S4x4096x512 .f32 :=
  shapeCast _ (broadcastInDim S4x4096x8x64 ![0, 1, 2, 3] bcast_S4x4096x8x1_S4x4096x8x64_0_1_2_3 (broadcastInDim S4x4096x8x1 ![0, 1, 2] bcast_S4x4096x8_S4x4096x8x1_0_1_2 (shapeCast _ (transpose S4x4096x1x8 [0, 2, 1, 3] (shapeCast _ (transpose S4x1x32x128x8 [0, 1, 2, 4, 3] z transposes_S4x1x32x8x128_S4x1x32x128x8_0_1_2_4_3) shapeCasts_S4x1x32x128x8_S4x1x4096x8) transposes_S4x1x4096x8_S4x4096x1x8_0_2_1_3) shapeCasts_S4x4096x1x8_S4x4096x8))) shapeCasts_S4x4096x8x64_S4x4096x512

theorem res0 (m : (ℓ : Loc nD τ sig) → Buf (Elt Ideal) ℓ) (c : Dev nD) :
    res_out0 (F := Ideal) m c = out0 (weigh (m ((c.tc : Thread nD τ).loc main_arg2))
      (logits (m ((c.tc : Thread nD τ).loc main_arg0)) (m ((c.tc : Thread nD τ).loc main_arg1)) (m ((c.tc : Thread nD τ).loc main_arg3)))) := by
  delta res_out0; unfold res_main_v112; rfl

theorem res1 (m : (ℓ : Loc nD τ sig) → Buf (Elt Ideal) ℓ) (c : Dev nD) :
    res_out1 (F := Ideal) m c = out1 (norm
      (logits (m ((c.tc : Thread nD τ).loc main_arg0)) (m ((c.tc : Thread nD τ).loc main_arg1)) (m ((c.tc : Thread nD τ).loc main_arg3)))) := by
  delta res_out1; unfold res_main_v113; rfl

/-! ## The stages at an index -/

variable (x q k v : FVec Ideal S4x4096x512 .f32) (t : FVec Ideal S32x8 .f32) (z : FVec Ideal S4x1x32x8x128x256 .f32)

theorem blocks_at (b : Fin 4) (p : Fin 1) (n : Fin 32) (r : Fin 128) (h : Fin 8) (e : Fin 64) :
    blocks x (ix6 b p n r h e) = x (ix3 b ⟨(128 * n + r) * 1 + p, by omega⟩ (Row.lane h e)) := by
  pointwise [blocks]
  rw [dif_pos (by omega)]
  exact congrArg x (Softmax.ix3_eq rfl (by dsimp only; omega) (by dsimp only; omega))

theorem windows_at (b : Fin 4) (p : Fin 1) (n : Fin 32) (j : Fin 256) (h : Fin 8) (e : Fin 64) :
    windows x (ix6 b p n j h e) = if h_1 : (j : ℕ) < 128 then
      (if h_2 : 1 ≤ (n : ℕ) then x (ix3 b ⟨(128 * (n - 1) + j) * 1 + p, by omega⟩ (Row.lane h e)) else FloatOps.sitofp (F := Ideal) FTy.f32 0#32)
      else x (ix3 b ⟨(128 * n + (j - 128)) * 1 + p, by omega⟩ (Row.lane h e)) := by
  pointwise [windows]
  by_cases h1 : (j : ℕ) < 128
  · rw [dif_pos h1, dif_pos h1]
    by_cases h2 : 1 ≤ (n : ℕ)
    · rw [dif_pos h2, dif_pos (by omega), blocks_at]
      exact congrArg x (Softmax.ix3_eq rfl (by dsimp only; omega) rfl)
    · rw [dif_neg h2, dif_neg (by omega)]
  · rw [dif_neg h1, dif_neg h1, blocks_at]
    exact congrArg x (Softmax.ix3_eq rfl (by dsimp only; omega) rfl)

theorem valid_at (n : Fin 32) (r : Fin 128) (j : Fin 256) :
    valid (ix3 n r j) = IntOp.andi (near (ix2 r j))
        (IntOp.cmpi .sge (IntOp.addi (IntOp.subi (IntOp.muli (BitVec.ofNat 32 ↑n) 128#32) 128#32) (BitVec.ofNat 32 ↑j)) 0#32) := by
  unfold valid
  rw [Softmax.andi_at]
  generalize near = N
  pointwise []

theorem dot_at (A : FVec Ideal S4x1x32x128x8x64 .f32) (K : FVec Ideal S4x1x32x256x8x64 .f32) (b : Fin 4) (p : Fin 1) (n : Fin 32) (h : Fin 8) (r : Fin 128) (j : Fin 256) :
    Host.dotGeneral dot_S4x1x32x128x8x64_S4x1x32x256x8x64_S4x1x32x8x128x256_5_5_3_3_0124_0124 none A K (ix6 b p n h r j)
      = ∑ e : Fin 64, A (ix6 b p n r h e) * K (ix6 b p n j h e) := by
  pointwise []

theorem mask_at (N : IVec S32x128x256 1) (b : Fin 4) (p : Fin 1) (n : Fin 32) (h : Fin 8) (r : Fin 128) (j : Fin 256) :
    broadcastInDim S4x1x32x8x128x256 ![2, 3, 4, 5] bcast_S32x1x128x256_S4x1x32x8x128x256_2_3_4_5 (broadcastInDim S32x1x128x256 ![0, 2, 3] bcast_S32x128x256_S32x1x128x256_0_2_3 N) (ix6 b p n h r j) = N (ix3 n r j) := by
  pointwise []

theorem bias_at (T : FVec Ideal S8x128x256 .f32) (b : Fin 4) (p : Fin 1) (n : Fin 32) (h : Fin 8) (r : Fin 128) (j : Fin 256) :
    broadcastInDim S4x1x32x8x128x256 ![0, 1, 2, 3, 4, 5] bcast_S1x1x1x8x128x256_S4x1x32x8x128x256_0_1_2_3_4_5 (broadcastInDim S1x1x1x8x128x256 ![3, 4, 5] bcast_S8x128x256_S1x1x1x8x128x256_3_4_5 T) (ix6 b p n h r j) = T (ix3 h r j) := by
  pointwise []

theorem logits_at (b : Fin 4) (p : Fin 1) (n : Fin 32) (h : Fin 8) (r : Fin 128) (j : Fin 256) :
    logits q k t (ix6 b p n h r j) = Scalar.select (valid (ix3 n r j))
      ((∑ e : Fin 64, blocks q (ix6 b p n r h e) * windows k (ix6 b p n j h e)) * Ideal.ofBits .f32 0x3E000000#32 + table t (ix3 h r j))
      (Ideal.ofBits .f32 0xFF800000#32) := by
  unfold logits
  rw [Softmax.select_at, Softmax.addf_at, Softmax.mulf_at, dot_at, mask_at, bias_at]
  generalize valid (ix3 n r j) = V
  generalize table t (ix3 h r j) = T
  generalize (∑ e : Fin 64, blocks q (ix6 b p n r h e) * windows k (ix6 b p n j h e)) = Z
  pointwise []

theorem top_at (b : Fin 4) (p : Fin 1) (n : Fin 32) (h : Fin 8) (r : Fin 128) :
    top z (ix5 b p n h r) = Softmax.top fun j => z (ix6 b p n h r j) := by
  unfold top Softmax.top
  rw [Softmax.max_last]
  rw [← Row.ofBits_bot]
  rfl

theorem spread_at (w : FVec Ideal S4x1x32x8x128 .f32) (b : Fin 4) (p : Fin 1) (n : Fin 32) (h : Fin 8) (r : Fin 128) (j : Fin 256) :
    spread w (ix6 b p n h r j) = w (ix5 b p n h r) := by
  obtain rfl : p = 0 := Subsingleton.elim _ _
  pointwise [spread]

theorem total_at (b : Fin 4) (p : Fin 1) (n : Fin 32) (h : Fin 8) (r : Fin 128) :
    total z (ix5 b p n h r) = ∑ j : Fin 256, Ideal.exp (z (ix6 b p n h r j)) := by
  have e : total z (ix5 b p n h r) = Ideal.hostReduceAdd reducesTo_S4x1x32x8x128x256_S4x1x32x8x128_d5 (fun i => Ideal.exp (z i))
      (Ideal.ofBits .f32 0x00000000#32) (ix5 b p n h r) := rfl
  rw [e, Softmax.sum_last]
  simp [Ideal.ofBits, Ideal.ieee]

theorem norm_at (b : Fin 4) (p : Fin 1) (n : Fin 32) (h : Fin 8) (r : Fin 128) :
    norm z (ix5 b p n h r) = Softmax.norm fun j => z (ix6 b p n h r j) := by
  unfold norm
  rw [Softmax.addf_at, Softmax.log_at, total_at, top_at]
  unfold Softmax.norm Softmax.total
  simp_rw [Softmax.subf_at, spread_at, top_at]

theorem weights_at (V : FVec Ideal S4x1x32x256x8x64 .f32) (E : FVec Ideal S4x1x32x8x128x256 .f32) (b : Fin 4) (p : Fin 1) (n : Fin 32) (r : Fin 128) (h : Fin 8) (e : Fin 64) :
    transpose S4x1x32x128x8x64 [0, 1, 2, 5, 3, 4] (Host.dotGeneral dot_S4x1x32x256x8x64_S4x1x32x8x128x256_S4x1x32x8x64x128_3_5_5_4_0124_0123 none V E) transposes_S4x1x32x8x64x128_S4x1x32x128x8x64_0_1_2_5_3_4 (ix6 b p n r h e)
      = ∑ j : Fin 256, V (ix6 b p n j h e) * E (ix6 b p n h r j) := by
  obtain rfl : p = 0 := Subsingleton.elim _ _
  pointwise []

theorem weigh_at (b : Fin 4) (p : Fin 1) (n : Fin 32) (r : Fin 128) (h : Fin 8) (e : Fin 64) :
    weigh v z (ix6 b p n r h e)
      = ∑ j : Fin 256, windows v (ix6 b p n j h e) * Ideal.exp (z (ix6 b p n h r j) - Softmax.norm fun j => z (ix6 b p n h r j)) := by
  unfold weigh
  rw [weights_at]
  refine Finset.sum_congr rfl fun j _ => ?_
  rw [Softmax.exp_at, Softmax.subf_at, spread_at, norm_at]

theorem out0_at (w : FVec Ideal S4x1x32x128x8x64 .f32) (b : Fin 4) (p : Fin 1) (n : Fin 32) (r : Fin 128) (h : Fin 8) (e : Fin 64) (y : S4x4096x512.Idx)
    (h0 : (y 0 : ℕ) = b) (h1 : (y 1 : ℕ) = 128 * n + r) (h2 : (y 2 : ℕ) = 512 * p + (64 * h + e)) :
    out0 w y = w (ix6 b p n r h e) := by
  obtain ⟨y0, y1, y2, rfl⟩ : ∃ y0 y1 y2, y = ix3 y0 y1 y2 := ⟨y 0, y 1, y 2, eq_ix3 y⟩
  change (y0 : ℕ) = b at h0
  change (y1 : ℕ) = 128 * n + r at h1
  change (y2 : ℕ) = 512 * p + (64 * h + e) at h2
  pointwise [out0]
  exact congrArg w (Softmax.ix6_eq (by first | omega | (dsimp only; omega) | (simp; omega)) (by first | omega | (dsimp only; omega) | (simp; omega)) (by first | omega | (dsimp only; omega) | (simp; omega)) (by first | omega | (dsimp only; omega) | (simp; omega)) (by first | omega | (dsimp only; omega) | (simp; omega)) (by first | omega | (dsimp only; omega) | (simp; omega)))

theorem out1_at (w : FVec Ideal S4x1x32x8x128 .f32) (b : Fin 4) (p : Fin 1) (n : Fin 32) (r : Fin 128) (h : Fin 8) (e : Fin 64) (y : S4x4096x512.Idx)
    (h0 : (y 0 : ℕ) = b) (h1 : (y 1 : ℕ) = 128 * n + r) (h2 : (y 2 : ℕ) = 512 * p + (64 * h + e)) :
    out1 w y = w (ix5 b p n h r) := by
  obtain ⟨y0, y1, y2, rfl⟩ : ∃ y0 y1 y2, y = ix3 y0 y1 y2 := ⟨y 0, y 1, y 2, eq_ix3 y⟩
  change (y0 : ℕ) = b at h0
  change (y1 : ℕ) = 128 * n + r at h1
  change (y2 : ℕ) = 512 * p + (64 * h + e) at h2
  pointwise [out1]
  exact congrArg w (Softmax.ix5_eq (by first | omega | (dsimp only; omega) | (simp; omega)) (by first | omega | (dsimp only; omega) | (simp; omega)) (by first | omega | (dsimp only; omega) | (simp; omega)) (by first | omega | (dsimp only; omega) | (simp; omega)) (by first | omega | (dsimp only; omega) | (simp; omega)))

end Cert.ReferenceIdeal.Stage

end
-- ==== Proof.Agree1.lean ====
module

public import proofs.«01_k».proof.Proof.Stage1

@[expose] public section

/-! The reference's stages against a grid point's arithmetic. -/

set_option maxRecDepth 16384

noncomputable section

open Idealize.ShloMosaic Idealize.ShloMosaic.TcCoe Idealize.SL.Sem

namespace Cert.ReferenceIdeal.Stage

/-! ## Against a grid point's arithmetic -/

theorem first_eq : ∀ (n : Fin 32) (j : Fin 256),
    IntOp.cmpi .sge (IntOp.addi (IntOp.subi (IntOp.muli (BitVec.ofNat 32 ↑n) 128#32) 128#32) (BitVec.ofNat 32 ↑j)) 0#32
      = ~~~ (IntOp.andi (Scalar.cmpi .eq (BitVec.ofNat 32 ↑n) 0#32) (IntOp.cmpi .slt (BitVec.ofNat 32 ↑j) 128#32)) := by
  decide +kernel

theorem first_iff : ∀ (n : Fin 32) (j : Fin 256),
    IntOp.andi (Scalar.cmpi .eq (BitVec.ofNat 32 ↑n) 0#32) (IntOp.cmpi .slt (BitVec.ofNat 32 ↑j) 128#32) = 1#1
      ↔ (n : ℕ) = 0 ∧ (j : ℕ) < 128 := by
  decide +kernel

theorem near_diag (r : Fin 128) : near (ix2 r ⟨128 + r, by omega⟩) = 1#1 := by
  pointwise [near, dist]
  revert r
  decide +kernel

theorem select_one {A : Type} (a b : A) : Scalar.select 1#1 a b = a := if_pos rfl
theorem select_zero {A : Type} (a b : A) : Scalar.select 0#1 a b = b := if_neg (by decide)
theorem zero_of_ne {c : BitVec 1} (h : c ≠ 1#1) : c = 0#1 := (BitVec.eq_zero_or_eq_one c).resolve_right h

/-- In the first block, the first half of the window holds no keys. -/
theorem valid_first {n : Fin 32} {j : Fin 256} (hn : (n : ℕ) = 0 ∧ (j : ℕ) < 128) (r : Fin 128) : valid (ix3 n r j) = 0#1 := by
  rw [valid_at, first_eq, (first_iff n j).2 hn]
  generalize near (ix2 r j) = N
  revert N
  decide

/-- Elsewhere only the distance decides. -/
theorem valid_rest {n : Fin 32} {j : Fin 256} (hn : ¬ ((n : ℕ) = 0 ∧ (j : ℕ) < 128)) (r : Fin 128) :
    valid (ix3 n r j) = near (ix2 r j) := by
  rw [valid_at, first_eq, zero_of_ne fun e => hn ((first_iff n j).1 e)]
  generalize near (ix2 r j) = N
  revert N
  decide

variable {b : Fin 4} {p : Fin 1} {n : Fin 32} {x q k v : FVec Ideal S4x4096x512 .f32} {t : FVec Ideal S32x8 .f32} (μ : EReal) (x0 x1 x2 x3 x4 : Row.Blk) (x5 : Row.Bias)

/-- A block, and the one before it, read their columns off the window. -/
theorem col_eq (h1 : ∀ (r : Fin 128) (l : Fin 512), x1 (ix3 0 r l) = x (ix3 b ⟨(128 * (n - 1) + r) * 1 + p, by omega⟩ l))
    (h2 : ∀ (r : Fin 128) (l : Fin 512), x2 (ix3 0 r l) = x (ix3 b ⟨(128 * n + r) * 1 + p, by omega⟩ l))
    {j : Fin 256} (hn : ¬ ((n : ℕ) = 0 ∧ (j : ℕ) < 128)) (h : Fin 8) (e : Fin 64) :
    Row.col x1 x2 j (Row.lane h e) = windows x (ix6 b p n j h e) := by
  unfold Row.col
  rw [windows_at]
  by_cases hj : (j : ℕ) < 128
  · rw [dif_pos hj, dif_pos hj, dif_pos (by omega), h1]
  · rw [dif_neg hj, dif_neg hj, h2]

/-- A grid point's scores are the reference's. -/
theorem score_eq (hμ : μ = ⊥)
    (h0 : ∀ (r : Fin 128) (l : Fin 512), x0 (ix3 0 r l) = q (ix3 b ⟨(128 * n + r) * 1 + p, by omega⟩ l) * Ideal.ofBits .f32 0x3E000000#32)
    (h1 : ∀ (r : Fin 128) (l : Fin 512), x1 (ix3 0 r l) = k (ix3 b ⟨(128 * (n - 1) + r) * 1 + p, by omega⟩ l))
    (h2 : ∀ (r : Fin 128) (l : Fin 512), x2 (ix3 0 r l) = k (ix3 b ⟨(128 * n + r) * 1 + p, by omega⟩ l))
    (h5 : ∀ (h : Fin 8) (r : Fin 128) (j : Fin 256), x5 (ix3 h r j) = Scalar.select (near (ix2 r j)) (table t (ix3 h r j)) ⊥)
    (h : Fin 8) (r : Fin 128) (j : Fin 256) :
    Row.score n μ x0 x1 x2 x5 h r j = logits q k t (ix6 b p n h r j) := by
  rw [logits_at, Row.ofBits_bot]
  unfold Row.score
  by_cases hn : (n : ℕ) = 0 ∧ (j : ℕ) < 128
  · rw [valid_first hn, (first_iff n j).2 hn, hμ, select_one, select_zero]
  · rw [valid_rest hn, zero_of_ne fun e => hn ((first_iff n j).1 e), h5]
    have hd : ∑ e : Fin 64, x0 (ix3 0 r (Row.lane h e)) * Row.col x1 x2 j (Row.lane h e)
        = (∑ e : Fin 64, blocks q (ix6 b p n r h e) * windows k (ix6 b p n j h e)) * Ideal.ofBits .f32 0x3E000000#32 := by
      rw [Row.ofBits_eighth, ← Softmax.dot_scale _ _ (by norm_num)]
      refine Finset.sum_congr rfl fun e _ => ?_
      rw [h0, blocks_at, col_eq x1 x2 h1 h2 hn, Row.ofBits_eighth]
    rw [hd]
    by_cases hr : near (ix2 r j) = 1#1
    · rw [hr, select_zero, select_one, select_one]
    · rw [zero_of_ne hr, select_zero, select_zero, select_zero, EReal.add_bot]

/-- Every entry is a real number. -/
abbrev Real' {s : Shape} (x : FVec Ideal s .f32) : Prop := ∀ i, ∃ r : ℝ, x i = r

theorem windows_real (hk : Real' k) (j : Fin 256) (h : Fin 8) (e : Fin 64) : ∃ r : ℝ, windows k (ix6 b p n j h e) = r := by
  rw [windows_at]
  split_ifs
  · exact hk _
  · exact ⟨_, rfl⟩
  · exact hk _

theorem open_real (hq : Real' q) (hk : Real' k) (ht : Real' t) (h : Fin 8) (r : Fin 128) (j : Fin 256) :
    ∃ y : ℝ, (∑ e : Fin 64, blocks q (ix6 b p n r h e) * windows k (ix6 b p n j h e)) * Ideal.ofBits .f32 0x3E000000#32 + table t (ix3 h r j) = y := by
  obtain ⟨d, hd⟩ := Softmax.dot_real (f := fun e : Fin 64 => blocks q (ix6 b p n r h e)) (g := fun e => windows k (ix6 b p n j h e))
    (fun e => by rw [blocks_at]; exact hq _) (fun e => windows_real hk j h e)
  obtain ⟨y, hy⟩ : ∃ y : ℝ, table t (ix3 h r j) = y := by
    unfold table
    exact ht _
  rw [hd, hy, Row.ofBits_eighth]
  exact ⟨d * (1 / 8) + y, by rw [EReal.coe_add, EReal.coe_mul]⟩

theorem logits_ne_top (hq : Real' q) (hk : Real' k) (ht : Real' t) (h : Fin 8) (r : Fin 128) (j : Fin 256) :
    logits q k t (ix6 b p n h r j) ≠ ⊤ := by
  rw [logits_at, Row.ofBits_bot]
  obtain ⟨y, hy⟩ := open_real (b := b) (p := p) (n := n) hq hk ht h r j
  rw [hy]
  unfold Scalar.select
  split_ifs
  · exact EReal.coe_ne_top y
  · exact bot_ne_top

theorem logits_diag (hq : Real' q) (hk : Real' k) (ht : Real' t) (h : Fin 8) (r : Fin 128) :
    logits q k t (ix6 b p n h r ⟨128 + r, by omega⟩) ≠ ⊥ := by
  rw [logits_at, Row.ofBits_bot]
  obtain ⟨y, hy⟩ := open_real (b := b) (p := p) (n := n) hq hk ht h r ⟨128 + r, by omega⟩
  rw [hy, valid_rest (by simp), near_diag, select_one]
  exact EReal.coe_ne_bot y

/-- A grid point's first result is the reference's. -/
theorem mid_agree (hq : Real' q) (hk : Real' k) (ht : Real' t) (hμ : μ = ⊥)
    (h0 : ∀ (r : Fin 128) (l : Fin 512), x0 (ix3 0 r l) = q (ix3 b ⟨(128 * n + r) * 1 + p, by omega⟩ l) * Ideal.ofBits .f32 0x3E000000#32)
    (h1 : ∀ (r : Fin 128) (l : Fin 512), x1 (ix3 0 r l) = k (ix3 b ⟨(128 * (n - 1) + r) * 1 + p, by omega⟩ l))
    (h2 : ∀ (r : Fin 128) (l : Fin 512), x2 (ix3 0 r l) = k (ix3 b ⟨(128 * n + r) * 1 + p, by omega⟩ l))
    (h3 : ∀ (r : Fin 128) (l : Fin 512), x3 (ix3 0 r l) = v (ix3 b ⟨(128 * (n - 1) + r) * 1 + p, by omega⟩ l))
    (h4 : ∀ (r : Fin 128) (l : Fin 512), x4 (ix3 0 r l) = v (ix3 b ⟨(128 * n + r) * 1 + p, by omega⟩ l))
    (h5 : ∀ (h : Fin 8) (r : Fin 128) (j : Fin 256), x5 (ix3 h r j) = Scalar.select (near (ix2 r j)) (table t (ix3 h r j)) ⊥)
    (r : Fin 128) (h : Fin 8) (e : Fin 64) :
    Row.mid n μ x0 x1 x2 x3 x4 x5 h r e = weigh v (logits q k t) (ix6 b p n r h e) := by
  rw [Row.mid_eq, weigh_at, funext (score_eq μ x0 x1 x2 x5 hμ h0 h1 h2 h5 h r),
    Softmax.mean_eq (logits_ne_top hq hk ht h r) ⟨_, logits_diag hq hk ht h r⟩]
  unfold Softmax.mean
  refine congrArg (Ideal.div · _) (Finset.sum_congr rfl fun j _ => ?_)
  dsimp only
  by_cases hn : (n : ℕ) = 0 ∧ (j : ℕ) < 128
  · rw [logits_at, valid_first hn, Row.ofBits_bot, select_zero, EReal.bot_sub, Ideal.exp_bot, zero_mul, zero_mul]
  · rw [col_eq x3 x4 h3 h4 hn]

/-- A grid point's second result is the reference's. -/
theorem nrm_agree (hμ : μ = ⊥)
    (h0 : ∀ (r : Fin 128) (l : Fin 512), x0 (ix3 0 r l) = q (ix3 b ⟨(128 * n + r) * 1 + p, by omega⟩ l) * Ideal.ofBits .f32 0x3E000000#32)
    (h1 : ∀ (r : Fin 128) (l : Fin 512), x1 (ix3 0 r l) = k (ix3 b ⟨(128 * (n - 1) + r) * 1 + p, by omega⟩ l))
    (h2 : ∀ (r : Fin 128) (l : Fin 512), x2 (ix3 0 r l) = k (ix3 b ⟨(128 * n + r) * 1 + p, by omega⟩ l))
    (h5 : ∀ (h : Fin 8) (r : Fin 128) (j : Fin 256), x5 (ix3 h r j) = Scalar.select (near (ix2 r j)) (table t (ix3 h r j)) ⊥)
    (h : Fin 8) (r : Fin 128) :
    Row.nrm n μ x0 x1 x2 x5 h r = norm (logits q k t) (ix5 b p n h r) := by
  rw [Row.nrm_eq, norm_at, funext (score_eq μ x0 x1 x2 x5 hμ h0 h1 h2 h5 h r)]

end Cert.ReferenceIdeal.Stage

end
-- ==== Proof.Bridge1.lean ====
module

public import proofs.«01_k».proof.Proof.Gen.KernelIdeal.Value
public import proofs.«01_k».proof.Proof.Heads1
public import proofs.«01_k».proof.Proof.Agree1

@[expose] public section

/-! The grid points' blocks assembled: the kernel's results are the reference's. -/

set_option maxRecDepth 16384

noncomputable section

open Idealize.ShloMosaic Idealize.ShloMosaic.TcCoe Idealize.SL Idealize.SL.Sem

namespace Cert.KernelIdeal.Bridge

open Cert.KernelIdeal Cert.KernelIdeal.Gen Cert.ReferenceIdeal

variable (m : (ℓ : Loc nD τ sig) → Buf (Elt Ideal) ℓ) (c : Dev nD)

abbrev Q : FVec Ideal S4x4096x512 .f32 := m ((c : Thread nD τ).loc main_arg0)
abbrev K : FVec Ideal S4x4096x512 .f32 := m ((c : Thread nD τ).loc main_arg1)
abbrev W : FVec Ideal S4x4096x512 .f32 := m ((c : Thread nD τ).loc main_arg2)
abbrev T : FVec Ideal S32x8 .f32 := m ((c : Thread nD τ).loc main_arg3)

theorem idx : ∀ t : Fin cfg0.N,
    win0_0.index t = ![(grid0.coords t 0).val, (grid0.coords t 2).val, (grid0.coords t 1).val]
    ∧ win0_1.index t = ![(grid0.coords t 0).val, (grid0.coords t 2).val - 1, (grid0.coords t 1).val]
    ∧ win0_2.index t = ![(grid0.coords t 0).val, (grid0.coords t 2).val, (grid0.coords t 1).val]
    ∧ win0_3.index t = ![(grid0.coords t 0).val, (grid0.coords t 2).val - 1, (grid0.coords t 1).val]
    ∧ win0_4.index t = ![(grid0.coords t 0).val, (grid0.coords t 2).val, (grid0.coords t 1).val]
    ∧ win0_5.index t = ![0, 0, 0]
    ∧ win0_6.index t = ![(grid0.coords t 0).val, (grid0.coords t 2).val, (grid0.coords t 1).val]
    ∧ win0_7.index t = ![(grid0.coords t 0).val, (grid0.coords t 2).val, (grid0.coords t 1).val] :=
  (by decide +kernel : ∀ t : Fin grid0.N, _)

set_option maxHeartbeats 1600000 in
theorem bias_eq : V m c main_v47 = select (broadcastInDim S8x128x256 ![0, 1, 2] bcast_S1x128x256_S8x128x256_0_1_2 (broadcastInDim S1x128x256 ![1, 2] bcast_S128x256_S1x128x256_1_2 Stage.near)) (Stage.table (T m c)) (broadcastInDim S8x128x256 ![] bcast_S_S8x128x256 (constant (F := Ideal) S_ .f32 0xFF800000#32)) := by
  unfold V
  simp only [hostOps0, hostOps0_1, hostOps0_2, hostOps0_3, List.flatten_cons, List.flatten_nil, List.cons_append, List.nil_append, List.append_nil, StableHlo.TRef.binary, StableHlo.TRef.ternary, StableHlo.TRef.unary, StableHlo.TRef.toBuf, StableHlo.TRef.ofBuf, cast_eq]
  after_results_simp
  all_goals rfl

set_option maxHeartbeats 1600000 in
theorem scaled : V m c main_v1 = mulf (Q m c) (broadcastInDim S4x4096x512 ![] bcast_S_S4x4096x512 (constant (F := Ideal) S_ .f32 0x3E000000#32)) := by
  unfold V
  simp only [hostOps0, hostOps0_1, hostOps0_2, hostOps0_3, List.flatten_cons, List.flatten_nil, List.cons_append, List.nil_append, List.append_nil, StableHlo.TRef.binary, StableHlo.TRef.ternary, StableHlo.TRef.unary, StableHlo.TRef.toBuf, StableHlo.TRef.ofBuf, cast_eq]
  after_results_simp
  all_goals rfl

theorem bias_at (t : Fin cfg0.N) (h : Fin 8) (r : Fin 128) (j : Fin 256) :
    (iblk m c 5 t : FVec Ideal S8x128x256 .f32) (ix3 h r j) = Scalar.select (Stage.near (ix2 r j)) (Stage.table (T m c) (ix3 h r j)) ⊥ := by
  have e : (iblk m c 5 t : FVec Ideal S8x128x256 .f32) (ix3 h r j) = (V m c main_v47 : FVec Ideal S8x128x256 .f32) (ix3 h r j) := by
    blk_ext [iblk, idx t]
  rw [e, bias_eq, ← Row.ofBits_bot]
  generalize Stage.near = N
  generalize Stage.table (T m c) = B
  pointwise []

theorem row_lt (t : Fin cfg0.N) (r : Fin 128) : (128 * (grid0.coords t 2 : ℕ) + r) * 1 + (grid0.coords t 1 : ℕ) < 4096 := by
  have h1 : (grid0.coords t 1 : ℕ) < 1 := (grid0.coords t 1).isLt
  have h2 : (grid0.coords t 2 : ℕ) < 32 := (grid0.coords t 2).isLt
  omega

theorem back_lt (t : Fin cfg0.N) (r : Fin 128) : (128 * ((grid0.coords t 2 : ℕ) - 1) + r) * 1 + (grid0.coords t 1 : ℕ) < 4096 := by
  have h1 : (grid0.coords t 1 : ℕ) < 1 := (grid0.coords t 1).isLt
  have h2 : (grid0.coords t 2 : ℕ) < 32 := (grid0.coords t 2).isLt
  omega

theorem read0 (t : Fin cfg0.N) (r : Fin 128) (l : Fin 512) : (iblk m c 0 t : FVec Ideal S1x128x512 .f32) (ix3 0 r l)
    = Q m c (ix3 (grid0.coords t 0) ⟨(128 * (grid0.coords t 2 : ℕ) + r) * 1 + (grid0.coords t 1 : ℕ), row_lt t r⟩ l) * Ideal.ofBits .f32 0x3E000000#32 := by
  have h1 : (grid0.coords t 1 : ℕ) < 1 := (grid0.coords t 1).isLt
  blk_simp [iblk]
  rw [scaled]
  pointwise []
  refine congrArg (· * _) ?_
  blk_ext [idx t]

theorem read1 (t : Fin cfg0.N) (r : Fin 128) (l : Fin 512) : (iblk m c 1 t : FVec Ideal S1x128x512 .f32) (ix3 0 r l)
    = K m c (ix3 (grid0.coords t 0) ⟨(128 * ((grid0.coords t 2 : ℕ) - 1) + r) * 1 + (grid0.coords t 1 : ℕ), back_lt t r⟩ l) := by
  have h1 : (grid0.coords t 1 : ℕ) < 1 := (grid0.coords t 1).isLt
  blk_simp [iblk]
  rw [V_main_arg1]
  blk_ext [idx t]

theorem read2 (t : Fin cfg0.N) (r : Fin 128) (l : Fin 512) : (iblk m c 2 t : FVec Ideal S1x128x512 .f32) (ix3 0 r l)
    = K m c (ix3 (grid0.coords t 0) ⟨(128 * (grid0.coords t 2 : ℕ) + r) * 1 + (grid0.coords t 1 : ℕ), row_lt t r⟩ l) := by
  have h1 : (grid0.coords t 1 : ℕ) < 1 := (grid0.coords t 1).isLt
  blk_simp [iblk]
  rw [V_main_arg1]
  blk_ext [idx t]

theorem read3 (t : Fin cfg0.N) (r : Fin 128) (l : Fin 512) : (iblk m c 3 t : FVec Ideal S1x128x512 .f32) (ix3 0 r l)
    = W m c (ix3 (grid0.coords t 0) ⟨(128 * ((grid0.coords t 2 : ℕ) - 1) + r) * 1 + (grid0.coords t 1 : ℕ), back_lt t r⟩ l) := by
  have h1 : (grid0.coords t 1 : ℕ) < 1 := (grid0.coords t 1).isLt
  blk_simp [iblk]
  rw [V_main_arg2]
  blk_ext [idx t]

theorem read4 (t : Fin cfg0.N) (r : Fin 128) (l : Fin 512) : (iblk m c 4 t : FVec Ideal S1x128x512 .f32) (ix3 0 r l)
    = W m c (ix3 (grid0.coords t 0) ⟨(128 * (grid0.coords t 2 : ℕ) + r) * 1 + (grid0.coords t 1 : ℕ), row_lt t r⟩ l) := by
  have h1 : (grid0.coords t 1 : ℕ) < 1 := (grid0.coords t 1).isLt
  blk_simp [iblk]
  rw [V_main_arg2]
  blk_ext [idx t]

set_option maxHeartbeats 1600000 in
/-- The first result after the run. -/
theorem final0 (hq : Stage.Real' (Q m c)) (hk : Stage.Real' (K m c)) (ht : Stage.Real' (T m c)) :
    (dats m 0 c).arrAt 6 cfg0.N = Stage.out0 (Stage.weigh (W m c) (Stage.logits (Q m c) (K m c) (T m c))) := by
  refine (dats m 0 c).arrAt_eq_of_covers 6 _ (by decide +kernel) fun t _ y => ?_
  have hy0 : (y 0 : ℕ) < 1 := (y 0).isLt
  have hy : (y 2 : ℕ) < 512 := (y 2).isLt
  blk_simp
  rw [after0_6]
  refine (Heads.out0_at _ _ _ _ _ _ _ ⟨(y 2 : ℕ) / 64, by omega⟩ (y 1) ⟨(y 2 : ℕ) % 64, by omega⟩ y rfl (by dsimp only; omega)).trans ?_
  refine (Stage.mid_agree (b := grid0.coords t 0) (p := grid0.coords t 1) (n := grid0.coords t 2) _ _ _ _ _ _ _ hq hk ht rfl (read0 m c t) (read1 m c t) (read2 m c t) (read3 m c t) (read4 m c t) (bias_at m c t) _ _ _).trans ?_
  refine (Stage.out0_at _ _ _ _ _ _ _ _ ?_ ?_ ?_).symm
  all_goals
    blk_simp [idx t] <;> first | omega | (dsimp only; omega)

set_option maxHeartbeats 1600000 in
/-- The second result after the run. -/
theorem final1 :
    (dats m 0 c).arrAt 7 cfg0.N = Stage.out1 (Stage.norm (Stage.logits (Q m c) (K m c) (T m c))) := by
  refine (dats m 0 c).arrAt_eq_of_covers 7 _ (by decide +kernel) fun t _ y => ?_
  have hy0 : (y 0 : ℕ) < 1 := (y 0).isLt
  have hy : (y 2 : ℕ) < 512 := (y 2).isLt
  blk_simp
  rw [after0_7]
  refine (Heads.out1_at _ _ _ _ _ _ _ ⟨(y 2 : ℕ) / 64, by omega⟩ (y 1) ⟨(y 2 : ℕ) % 64, by omega⟩ y rfl (by dsimp only; omega)).trans ?_
  refine (Stage.nrm_agree (b := grid0.coords t 0) (p := grid0.coords t 1) (n := grid0.coords t 2) _ _ _ _ _ rfl (read0 m c t) (read1 m c t) (read2 m c t) (bias_at m c t) _ _).trans ?_
  refine (Stage.out1_at (e := ⟨(y 2 : ℕ) % 64, by omega⟩) _ _ _ _ _ _ _ ?_ ?_ ?_).symm
  all_goals
    blk_simp [idx t] <;> first | omega | (dsimp only; omega)

end Cert.KernelIdeal.Bridge

end
-- ==== Proof.Branch1.lean ====
module

public import proofs.«01_k».proof.Defs
public import proofs.«01_k».proof.Proof.Finite
public import proofs.«01_k».proof.Proof.Bridge1
public import proofs.«01_k».proof.Proof.Gen.Kernel.Frame
public import Idealize.ShloMosaic.Lib.Quiescent

@[expose] public section

/-! The claims of the branch with one phase. -/

noncomputable section

open Idealize.ShloMosaic Idealize.ShloMosaic.TcCoe Idealize.SL.Sem

namespace Cert.Branch1

instance : Cert.KernelIdeal.Facts := Cert.KernelIdeal.Gen.facts
instance : Cert.ReferenceIdeal.Facts := Cert.ReferenceIdeal.Gen.facts

/-- The kernel's frame. -/
theorem frame_kernel : Cert.quiescent_Kernel := fun m g _ => Cert.Kernel.Gen.frame m g

/-- The ideal kernel's frame. -/
theorem frame_ideal : Cert.quiescent_KernelIdeal := fun m g _ => Cert.KernelIdeal.Gen.frame m g

/-- The ideal kernel's frame under the precondition. -/
theorem frame_ideal_finite : Cert.quiescent_KernelIdeal_pre_finite := fun m g _ => Cert.KernelIdeal.Gen.frame m g

/-- The reference's frame. -/
theorem frame_reference : Cert.quiescent_ReferenceIdeal := fun m g _ =>
  (θ_run _ _ _).mono (fun r h => ⟨fun c => (h c).2.2, sem_eq_zero_of_no_sems (by decide) r.2⟩) (Cert.ReferenceIdeal.Value.run m g)

/-- The reference's frame under the precondition. -/
theorem frame_reference_finite : Cert.quiescent_ReferenceIdeal_pre_finite := fun m g _ => frame_reference m g trivial

/-- The mask constant of the kernel body stands for −∞. -/
theorem preserves : Cert.preserves_Kernel_KernelIdeal :=
  IdealRules.named_const.statement Cert.KernelIdeal.κ "mask" .f32 0xF149F2CA#32 ⊥ rfl

/-- Kernel and reference end with equal results. -/
theorem algebraic : Cert.algebraic_KernelIdeal_ReferenceIdeal_pre_finite := by
  intro m g m' g' hpre hagree
  refine ⟨_, _, Cert.KernelIdeal.Value.run_blocks m g, (θ_run _ _ _).mono (fun r h c => ?_) (Cert.ReferenceIdeal.Value.run m' g')⟩
  obtain ⟨a0, a1, a2, a3⟩ := hagree c
  obtain ⟨hq, hk, ht⟩ := Cert.Pre_finite.reals (hpre c)
  refine ⟨(h c).1.trans ((Cert.ReferenceIdeal.Stage.res0 m' c).trans ?_), (h c).2.1.trans ((Cert.ReferenceIdeal.Stage.res1 m' c).trans ?_), (h c).2.2⟩
  · rw [a0, a1, a2, a3]
    exact (Cert.KernelIdeal.Bridge.final0 m c hq hk ht).symm
  · rw [a0, a1, a3]
    exact (Cert.KernelIdeal.Bridge.final1 m c).symm

end Cert.Branch1

end
-- ==== Proof.Finite2.lean ====
module

public import proofs.«01_k».proof.Pre_finite_inproj
public import proofs.«01_k».proof.Proof.Finite

@[expose] public section

/-! What the projections' precondition says: the entries of the layer's input, of its modulation and of the weights are real. -/

noncomputable section

open Idealize.ShloMosaic

namespace Cert.Pre_finite_inproj

open Cert.Pre_finite (real_of_lt)

instance facts : Facts where
  bcast_S_S4x4096x1024 := by decide
  reducesTo_S4x4096x1024_S_d0_1_2 := by decide
  h_S_ := by decide
  bcast_S_S4x1x1024 := by decide
  reducesTo_S4x1x1024_S_d0_1_2 := by decide
  bcast_S_S1024 := by decide
  reducesTo_S1024_S_d0 := by decide
  bcast_S_S1024x2560 := by decide
  reducesTo_S1024x2560_S_d0_1 := by decide
  bcast_S_S256 := by decide
  reducesTo_S256_S_d0 := by decide
  bcast_S_S4x128x128 := by decide
  reducesTo_S4x128x128_S_d0_1_2 := by decide

theorem reals {x : FVec Ideal S4x4096x1024 .f32} {sh sc : FVec Ideal S4x1x1024 .f32} {nm : FVec Ideal S1024 .f32}
    {w : FVec Ideal S1024x2560 .f32} {qg kg : FVec Ideal S64 .f32} {gn : FVec Ideal S256 .f32} {ws : FVec Ideal S4x128x128 .f32}
    {bs : FVec Ideal S4x128 .f32} (h : fn (F := Ideal) x sh sc nm w qg kg gn ws bs = fun _ => 1#1) :
    (∀ i, ∃ r : ℝ, x i = r) ∧ (∀ i, ∃ r : ℝ, sh i = r) ∧ (∀ i, ∃ r : ℝ, sc i = r) ∧ (∀ i, ∃ r : ℝ, nm i = r)
      ∧ (∀ i, ∃ r : ℝ, w i = r) ∧ (∀ i, ∃ r : ℝ, gn i = r) ∧ (∀ i, ∃ r : ℝ, ws i = r) := by
  haveI : Subsingleton S_.Idx := ⟨fun a b => funext fun i => i.elim0⟩
  have e := congrFun h (fun i => i.elim0)
  unfold fn fn_part1 at e
  obtain ⟨e, ews⟩ := IntOp.andi_eq_one.1 e
  obtain ⟨e, egn⟩ := IntOp.andi_eq_one.1 e
  obtain ⟨e, ew⟩ := IntOp.andi_eq_one.1 e
  obtain ⟨e, enm⟩ := IntOp.andi_eq_one.1 e
  obtain ⟨e, esc⟩ := IntOp.andi_eq_one.1 e
  obtain ⟨ex, esh⟩ := IntOp.andi_eq_one.1 e
  exact ⟨fun i => real_of_lt _ (Host.reduce_andi_all _ _ _ _ _ ex i), fun i => real_of_lt _ (Host.reduce_andi_all _ _ _ _ _ esh i),
    fun i => real_of_lt _ (Host.reduce_andi_all _ _ _ _ _ esc i), fun i => real_of_lt _ (Host.reduce_andi_all _ _ _ _ _ enm i),
    fun i => real_of_lt _ (Host.reduce_andi_all _ _ _ _ _ ew i), fun i => real_of_lt _ (Host.reduce_andi_all _ _ _ _ _ egn i),
    fun i => real_of_lt _ (Host.reduce_andi_all _ _ _ _ _ ews i)⟩

end Cert.Pre_finite_inproj

end
-- ==== Proof.Proj.lean ====
module

public import Idealize.ShloMosaic.Lib.Pipeline.ValueKit

/-! The arithmetic of the input projections over the extended reals: a row's norm, its projection, the norm of a head and
    the spatial gate, each as the kernel computes it and as the reference does. -/

@[expose] public section

noncomputable section

open Idealize.ShloMosaic

namespace Cert.Proj

/-- The number added under the root. -/
abbrev eps : EReal := Ideal.ofBits .f32 0x358637BD#32

/-- The inverse root of a row's mean square, `d` being the row's length. -/
def rms {n : ℕ} (d : EReal) (x : Fin n → EReal) : EReal :=
  Ideal.rsqrt (Ideal.div (∑ k, x k * x k) d + eps)

/-- A row normalised, scaled and shifted. -/
def hid (x g sc sh : Fin 1024 → EReal) (k : Fin 1024) : EReal :=
  x k * rms (Ideal.ofBits .f32 0x44800000#32) x * g k * (Ideal.ofBits .f32 0x3F800000#32 + sc k) + sh k

/-- The row's projection. -/
def proj (x g sc sh : Fin 1024 → EReal) (w : Fin 1024 → Fin 2560 → EReal) (j : Fin 2560) : EReal :=
  ∑ k, hid x g sc sh k * w k j

/-- A lane of a head. -/
abbrev lane (h : Fin 8) (e : Fin 64) : Fin 512 := ⟨h * 64 + e, by omega⟩

/-- The heads' norm as the kernel computes it: squares and what their rounding leaves, each summed by a product with the
    matrix `o`. -/
def headK (a g : Fin 512 → EReal) (o : Fin 512 → Fin 512 → EReal) (l : Fin 512) : EReal :=
  a l * Ideal.rsqrt ((∑ p, a p * a p * o p l + ∑ p, (a p * a p - a p * a p) * o p l) * Ideal.ofBits .f32 0x3C800000#32 + eps) * g l

/-- The heads' norm as the reference computes it. -/
def headR (a : Fin 512 → EReal) (g : Fin 64 → EReal) (h : Fin 8) (e : Fin 64) : EReal :=
  a (lane h e) * rms (Ideal.ofBits .f32 0x42800000#32) (fun e => a (lane h e)) * g e

/-- A normalised row of 256. -/
def unit (a g : Fin 256 → EReal) (l : Fin 256) : EReal :=
  a l * rms (Ideal.ofBits .f32 0x43800000#32) a * g l

/-- A chunk of 128 rows, once per group, with zeros outside the group's lanes. -/
def spread (v : Fin 128 → Fin 256 → EReal) (c : Fin 512) (l : Fin 256) : EReal :=
  if (c : ℕ) / 128 = (l : ℕ) / 64 then v ⟨(c : ℕ) % 128, by omega⟩ l else 0

/-- The mix of a chunk's rows as the kernel computes it: `w0` and `w1` are the weights and what their rounding leaves. -/
def mixK (w0 w1 : Fin 512 → EReal) (v : Fin 128 → Fin 256 → EReal) (b : EReal) (l : Fin 256) : EReal :=
  ((∑ c, w0 c * spread v c l + ∑ c, w0 c * (spread v c l - spread v c l)) + ∑ c, w1 c * spread v c l) + b

/-! ## Real numbers -/

/-- `x` is a real number. -/
abbrev Real' (x : EReal) : Prop := ∃ r : ℝ, x = r

theorem Real'.mul {x y : EReal} (hx : Real' x) (hy : Real' y) : Real' (x * y) := by
  obtain ⟨a, rfl⟩ := hx; obtain ⟨b, rfl⟩ := hy
  exact ⟨a * b, by push_cast; rfl⟩

theorem Real'.add {x y : EReal} (hx : Real' x) (hy : Real' y) : Real' (x + y) := by
  obtain ⟨a, rfl⟩ := hx; obtain ⟨b, rfl⟩ := hy
  exact ⟨a + b, by push_cast; rfl⟩

theorem Real'.sum {ι : Type} (s : Finset ι) {f : ι → EReal} (h : ∀ i, Real' (f i)) : Real' (∑ i ∈ s, f i) := by
  classical
  induction s using Finset.induction_on with
  | empty => exact ⟨0, by simp⟩
  | insert a s ha ih => rw [Finset.sum_insert ha]; exact (h a).add ih

theorem Real'.sub_self {x : EReal} (h : Real' x) : x - x = 0 := by
  obtain ⟨a, rfl⟩ := h
  rw [← EReal.coe_sub, _root_.sub_self, EReal.coe_zero]

theorem ofBits_one : Ideal.ofBits .f32 0x3F800000#32 = ((1 : ℝ) : EReal) := by
  simp [Ideal.ofBits, Ideal.ieee, -EReal.coe_mul]; norm_num

theorem ofBits_inv : Ideal.ofBits .f32 0x3C800000#32 = (((1 : ℝ) / 64 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem eps_pos : ∃ r : ℝ, 0 < r ∧ eps = r := by
  refine ⟨_, ?_, by simp [eps, Ideal.ofBits, Ideal.ieee, -EReal.coe_mul]; rfl⟩
  norm_num

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inverse root of a real row is real. -/
theorem rms_real {n : ℕ} {d : EReal} (hd : ∃ r : ℝ, 0 < r ∧ d = r) {x : Fin n → EReal} (hx : ∀ k, Real' (x k)) : Real' (rms d x) := by
  obtain ⟨r, hr, rfl⟩ := hd
  obtain ⟨e, he, heps⟩ := eps_pos
  choose y hy using hx
  have hs : (∑ k, x k * x k) = ((∑ k, y k * y k : ℝ) : EReal) := by
    simp only [hy, ← EReal.coe_mul]
    exact (coe_sum _ _).symm
  unfold rms
  rw [hs, heps, Ideal.div_coe hr.ne', ← EReal.coe_mul, ← EReal.coe_add, Ideal.rsqrt_coe]
  have hp : 0 < (∑ k, y k * y k) * (1 / r) + e := by
    have : 0 ≤ ∑ k, y k * y k := Finset.sum_nonneg fun k _ => mul_self_nonneg _
    positivity
  rw [if_neg (not_lt.2 hp.le), if_neg hp.ne']
  exact ⟨_, rfl⟩

/-- A real row's projection is real. -/
theorem proj_real {x g sc sh : Fin 1024 → EReal} {w : Fin 1024 → Fin 2560 → EReal} (hx : ∀ k, Real' (x k)) (hg : ∀ k, Real' (g k))
    (hsc : ∀ k, Real' (sc k)) (hsh : ∀ k, Real' (sh k)) (hw : ∀ k j, Real' (w k j)) (j : Fin 2560) : Real' (proj x g sc sh w j) :=
  Real'.sum _ fun k => ((((hx k).mul (rms_real ⟨_, by norm_num, ofBits_1024⟩ hx)).mul (hg k)).mul
    (Real'.add ⟨_, ofBits_one⟩ (hsc k))).add (hsh k) |>.mul (hw k j)

theorem unit_real {a g : Fin 256 → EReal} (ha : ∀ l, Real' (a l)) (hg : ∀ l, Real' (g l)) (l : Fin 256) : Real' (unit a g l) :=
  ((ha l).mul (rms_real ⟨_, by norm_num, ofBits_256⟩ ha)).mul (hg l)

/-! ## The agreement -/

/-- A sum against the indicator of one of `m` blocks of `n` is the sum over the block. -/
theorem sum_block {m n : ℕ} (h : Fin m) (f : Fin (m * n) → EReal) :
    ∑ p : Fin (m * n), f p * (if (p : ℕ) / n = h then 1 else 0) = ∑ e : Fin n, f (finProdFinEquiv (h, e)) := by
  rw [← finProdFinEquiv.sum_comp, Fintype.sum_prod_type, Finset.sum_eq_single h]
  · refine Finset.sum_congr rfl fun e _ => ?_
    rw [if_pos, mul_one]
    have hn : 0 < n := e.pos
    show ((e : ℕ) + n * h) / n = h
    rw [Nat.add_mul_div_left _ _ hn, Nat.div_eq_of_lt e.isLt, zero_add]
  · intro k _ hk
    refine Finset.sum_eq_zero fun e _ => ?_
    rw [if_neg, mul_zero]
    have hn : 0 < n := e.pos
    show ¬ ((e : ℕ) + n * k) / n = h
    rw [Nat.add_mul_div_left _ _ hn, Nat.div_eq_of_lt e.isLt, zero_add]
    exact fun e => hk (Fin.ext e)
  · exact fun e => absurd (Finset.mem_univ _) e

/-- The two ways to norm the heads agree on real rows. -/
theorem head_agree {a g : Fin 512 → EReal} {g' : Fin 64 → EReal} {o : Fin 512 → Fin 512 → EReal} (ha : ∀ l, Real' (a l))
    (ho : ∀ p l, o p l = if (p : ℕ) / 64 = (l : ℕ) / 64 then 1 else 0) (hg : ∀ h e, g (lane h e) = g' e) (h : Fin 8) (e : Fin 64) :
    headK a g o (lane h e) = headR a g' h e := by
  have hsq : ∀ p, Real' (a p * a p) := fun p => (ha p).mul (ha p)
  have hl : ((lane h e : Fin 512) : ℕ) / 64 = h := by show ((h : ℕ) * 64 + e) / 64 = h; omega
  have e1 : ∑ p, (a p * a p - a p * a p) * o p (lane h e) = 0 :=
    Finset.sum_eq_zero fun p _ => by rw [(hsq p).sub_self, zero_mul]
  have e2 : ∑ p, a p * a p * o p (lane h e) = ∑ e : Fin 64, a (lane h e) * a (lane h e) := by
    simp only [ho, hl]
    refine (sum_block (m := 8) (n := 64) h fun p => a p * a p).trans (Finset.sum_congr rfl fun e _ => ?_)
    have : (finProdFinEquiv (h, e) : Fin (8 * 64)) = lane h e := Fin.ext (by show (e : ℕ) + 64 * h = h * 64 + e; omega)
    rw [this]
  obtain ⟨s, hs⟩ : Real' (∑ e : Fin 64, a (lane h e) * a (lane h e)) := Real'.sum _ fun e => hsq _
  unfold headK headR rms
  rw [e1, e2, add_zero, hg, hs, ofBits_inv, ofBits_64, Ideal.div_coe (by norm_num)]

/-- The two ways to mix a chunk's rows agree on real weights and rows. -/
theorem mix_agree {w0 w1 : Fin 512 → EReal} {w : Fin 4 → Fin 128 → EReal} {v : Fin 128 → Fin 256 → EReal} {b : EReal} {l : Fin 256} (g : Fin 4)
    (hl : (l : ℕ) / 64 = g) (hw : ∀ g j, Real' (w g j)) (h0 : ∀ g j, w0 (finProdFinEquiv (g, j) : Fin (4 * 128)) = w g j)
    (h1 : ∀ c, w1 c = w0 c - w0 c) (hv : ∀ j, Real' (v j l)) :
    mixK w0 w1 v b l = (∑ j, v j l * w g j) + b := by
  have hw0 : ∀ c : Fin 512, Real' (w0 c) := fun c => by
    have e := h0 (finProdFinEquiv (m := 4) (n := 128) |>.symm c).1 (finProdFinEquiv (m := 4) (n := 128) |>.symm c).2
    rw [Prod.mk.eta, Equiv.apply_symm_apply] at e
    rw [e]; exact hw _ _
  have hs : ∀ c, Real' (spread v c l) := fun c => by
    unfold spread; split
    · exact hv _
    · exact ⟨0, rfl⟩
  have e1 : ∑ c, w0 c * (spread v c l - spread v c l) = 0 := Finset.sum_eq_zero fun c _ => by rw [(hs c).sub_self, mul_zero]
  have e2 : ∑ c, w1 c * spread v c l = 0 := Finset.sum_eq_zero fun c _ => by rw [h1, (hw0 c).sub_self, zero_mul]
  have e3 : ∑ c, w0 c * spread v c l = ∑ j, v j l * w g j := by
    have e4 : ∀ c : Fin 512, w0 c * spread v c l = (w0 c * v ⟨(c : ℕ) % 128, by omega⟩ l) * (if (c : ℕ) / 128 = g then 1 else 0) := fun c => by
      unfold spread; rw [hl]
      split <;> simp
    simp only [e4]
    refine (sum_block (m := 4) (n := 128) g fun c => w0 c * v ⟨(c : ℕ) % 128, by omega⟩ l).trans (Finset.sum_congr rfl fun j _ => ?_)
    rw [h0, mul_comm]
    congr 2
    exact Fin.ext (by show ((j : ℕ) + 128 * g) % 128 = j; omega)
  unfold mixK
  rw [e1, e2, e3, add_zero, add_zero]

end Cert.Proj

end
-- ==== Proof.Block2.lean ====
module

public import proofs.«01_k».proof.Proof.Gen.Kernel2Ideal.Frame
public import proofs.«01_k».proof.Proof.Proj

/-! What a grid point of the projections writes back, at an index. -/

@[expose] public section

set_option maxRecDepth 16384

noncomputable section

open Idealize.ShloMosaic Idealize.ShloMosaic.TcCoe Idealize.SL.Sem

namespace Cert.Kernel2Ideal.Block

open Cert.Kernel2Ideal Cert.Kernel2Ideal.Gen Cert.Proj

variable (x0 : Vec Ideal S1x512x1024 .f32) (x1 x2 : Vec Ideal S1x1x1024 .f32) (x3 : Vec Ideal S1x1024 .f32) (x4 : Vec Ideal S1024x2560 .bf16)

/-- The projection of a block's row. -/
def z (r : Fin 512) (j : Fin 2560) : EReal :=
  proj (fun k => x0 (ix3 0 r k)) (fun k => x3 (ix2 0 k)) (fun k => x2 (ix3 0 0 k)) (fun k => x1 (ix3 0 0 k)) (fun k j => x4 (ix2 k j)) j

set_option maxHeartbeats 4000000 in
theorem pay2_at (r : Fin 512) (j : Fin 2560) : k0_pay2 (F := Ideal) x0 x3 x2 x1 x4 (ix2 r j) = z x0 x1 x2 x3 x4 r j := by
  unfold k0_pay2
  pointwise [z, proj, hid, rms]

variable (Z : FVec Ideal S512x2560 .f32) (o : FVec Ideal S512x512 .bf16)

set_option maxHeartbeats 4000000 in
theorem pay8_at (g : Vec Ideal S1x512 .f32) (a : Fin 1) (r l : Fin 512) : k0_pay8 (F := Ideal) Z o g (ix3 a r l)
    = headK (fun l => Z (ix2 r ⟨512 + l, by omega⟩)) (fun l => g (ix2 0 l)) (fun p l => o (ix2 p l)) l := by
  unfold k0_pay8
  pointwise [headK]

set_option maxHeartbeats 4000000 in
theorem pay7_at (g : FVec Ideal S1x512 .f32) (a : Fin 1) (r l : Fin 512) (A : FVec Ideal S512x512 .f32) : k0_pay7 (F := Ideal) o A g (mulf A A) (ix3 a r l)
    = headK (fun l => A (ix2 r l)) (fun l => g (ix2 0 l)) (fun p l => o (ix2 p l)) l * Ideal.ofBits .f32 0x3E000000#32 := by
  unfold k0_pay7
  pointwise [headK]

set_option maxHeartbeats 4000000 in
theorem pay11_at (g : Vec Ideal S1x256 .f32) (r : Fin 512) (l : Fin 256) : k0_pay11 (F := Ideal) Z g (ix2 r l)
    = unit (fun l => Z (ix2 r ⟨1792 + l, by omega⟩)) (fun l => g (ix2 0 l)) l := by
  unfold k0_pay11
  pointwise [unit, rms]

/-! ## The gate -/

variable (U V : FVec Ideal S512x256 .f32) (u v : FVec Ideal S128x256 .f32) (N : IVec S512x256 1) (w : Vec Ideal S2x128x512 .bf16) (b : Vec Ideal S128x256 .f32)

/-- A chunk of rows four times over. -/
def quad : FVec Ideal S512x256 .f32 :=
  concatenate S512x256 0 [⟨S128x256, v⟩, ⟨S128x256, v⟩, ⟨S128x256, v⟩, ⟨S128x256, v⟩] concatenates_S128x256_S128x256_S128x256_S128x256_S512x256_d0

/-- The first half of the weights. -/
def hi : FVec Ideal S128x512 .bf16 :=
  shapeCast S128x512 (extractStridedSlice S1x128x512 ![0, 0, 0] (shapeCast S2x128x512 w shapeCasts_S2x128x512_S2x128x512 : FVec Ideal S2x128x512 .bf16) slices_S2x128x512_o0_0_0_S1x128x512) shapeCasts_S1x128x512_S128x512

/-- The second half of the weights. -/
def lo : FVec Ideal S128x512 .bf16 :=
  shapeCast S128x512 (extractStridedSlice S1x128x512 ![1, 0, 0] (shapeCast S2x128x512 w shapeCasts_S2x128x512_S2x128x512 : FVec Ideal S2x128x512 .bf16) slices_S2x128x512_o1_0_0_S1x128x512) shapeCasts_S1x128x512_S128x512

/-- The product of the weights, in two parts, with the spread rows `s`, and the bias. -/
def mixed (s : FVec Ideal S512x256 .f32) : FVec Ideal S128x256 .f32 :=
  addf (addf (addf
    (matmul dot_S128x512_S512x256_S128x256_1_0_0_1_n_n none (hi w) (truncf .bf16 s bitsLt_bf16_f32) (constant S128x256 .f32 0x00000000#32))
    (matmul dot_S128x512_S512x256_S128x256_1_0_0_1_n_n none (hi w) (truncf .bf16 (subf s (extf .f32 (truncf .bf16 s bitsLt_bf16_f32) bitsLt_bf16_f32)) bitsLt_bf16_f32) (constant S128x256 .f32 0x00000000#32)))
    (matmul dot_S128x512_S512x256_S128x256_1_0_0_1_n_n none (lo w) (truncf .bf16 s bitsLt_bf16_f32) (constant S128x256 .f32 0x00000000#32)))
    (shapeCast S128x256 b shapeCasts_S128x256_S128x256)

/-- A chunk's gate. -/
def gated : FVec Ideal S1x128x256 .f32 :=
  shapeCast S1x128x256 (mulf u (mixed w b (select N (quad v) (broadcast S512x256 (Scalar.ofBits .f32 0x00000000#32))))) shapeCasts_S128x256_S1x128x256

theorem pay19_eq : k0_pay19 (F := Ideal) U N (k0_pay18 V) w b
    = gated (extractStridedSlice S128x256 ![0, 0] U slices_S512x256_o0_0_S128x256) (extractStridedSlice S128x256 ![0, 0] V slices_S512x256_o0_0_S128x256) N w b := rfl

theorem pay27_eq : k0_pay27 (F := Ideal) U (k0_pay23 w) (k0_pay24 V N) (k0_pay25 V N w) (k0_pay26 V N w) b
    = gated (extractStridedSlice S128x256 ![128, 0] U slices_S512x256_o128_0_S128x256) (extractStridedSlice S128x256 ![128, 0] V slices_S512x256_o128_0_S128x256) N w b := rfl

theorem pay28_eq : k0_pay28 (F := Ideal) U V N w b
    = gated (extractStridedSlice S128x256 ![256, 0] U slices_S512x256_o256_0_S128x256) (extractStridedSlice S128x256 ![256, 0] V slices_S512x256_o256_0_S128x256) N w b := rfl

theorem pay1_eq : k0_pay1 (F := Ideal) U N (k0_pay29 V) w b
    = gated (extractStridedSlice S128x256 ![384, 0] U slices_S512x256_o384_0_S128x256) (extractStridedSlice S128x256 ![384, 0] V slices_S512x256_o384_0_S128x256) N w b := rfl

theorem quad_at (c : Fin 512) (l : Fin 256) : quad v (ix2 c l) = v (ix2 ⟨(c : ℕ) % 128, by omega⟩ l) := by
  pointwise [quad]
  split
  · congr 2; exact Fin.ext (by dsimp only; omega)
  · split
    · congr 2; exact Fin.ext (by dsimp only; omega)
    · split
      · congr 2; exact Fin.ext (by dsimp only; omega)
      · congr 2; exact Fin.ext (by dsimp only; omega)

theorem mixed_at (s : FVec Ideal S512x256 .f32) (i : Fin 128) (l : Fin 256) : mixed w b s (ix2 i l)
    = ((∑ c : Fin 512, w (ix3 0 i c) * s (ix2 c l) + ∑ c : Fin 512, w (ix3 0 i c) * (s (ix2 c l) - s (ix2 c l))) + ∑ c : Fin 512, w (ix3 1 i c) * s (ix2 c l)) + b (ix2 i l) := by
  pointwise [mixed, hi, lo]

/-- The floor of a quotient, as computed from the quotient rounded to zero. -/
def floor (n d : BitVec 32) : BitVec 32 :=
  Scalar.select (IntOp.andi (IntOp.cmpi .ne (IntOp.subi (BitVec.setWidth 32 (IntOp.cmpi .sgt n 0#32)) (BitVec.setWidth 32 (IntOp.cmpi .slt n 0#32)))
      (Scalar.subi (Scalar.extui (Scalar.cmpi .sgt d 0#32)) (Scalar.extui (Scalar.cmpi .slt d 0#32)))) (IntOp.cmpi .ne (IntOp.remsi .vector n d) 0#32))
    (IntOp.subi (IntOp.divsi .vector n d) 1#32) (IntOp.divsi .vector n d)

theorem floor_row : ∀ c : Fin 512, floor (BitVec.ofNat 32 c) 128#32 = BitVec.ofNat 32 ((c : ℕ) / 128) := by decide +kernel

theorem floor_lane : ∀ l : Fin 256, floor (BitVec.ofNat 32 l) 64#32 = BitVec.ofNat 32 ((l : ℕ) / 64) := by decide +kernel

theorem same : ∀ g h : Fin 8, IntOp.cmpi .eq (BitVec.ofNat 32 g) (BitVec.ofNat 32 h) = if (g : ℕ) = h then 1#1 else 0#1 := by decide +kernel

/-- Where a row's group is a lane's. -/
abbrev groups : IVec S512x256 1 := k0_pay17 (iota .tc S512x256 32 [0] iota_S512x256_d0_w32) 128#32 k0_pay15 k0_pay16

set_option maxHeartbeats 4000000 in
theorem groups_at (c : Fin 512) (l : Fin 256) : groups (ix2 c l) = if (c : ℕ) / 128 = (l : ℕ) / 64 then 1#1 else 0#1 := by
  unfold groups k0_pay17 k0_pay15 k0_pay16
  pointwise []
  show IntOp.cmpi .eq (floor (BitVec.ofNat 32 c) 128#32) (floor (BitVec.ofNat 32 l) 64#32) = _
  rw [floor_row, floor_lane]
  exact same ⟨(c : ℕ) / 128, by omega⟩ ⟨(l : ℕ) / 64, by omega⟩

theorem gated_at (a : Fin 1) (i : Fin 128) (l : Fin 256) : gated u v groups w b (ix3 a i l)
    = u (ix2 i l) * mixK (fun c => w (ix3 0 i c)) (fun c => w (ix3 1 i c)) (fun j l => v (ix2 j l)) (b (ix2 i l)) l := by
  have e : gated u v groups w b (ix3 a i l) = u (ix2 i l) * mixed w b (select groups (quad v) (broadcast S512x256 (Scalar.ofBits .f32 0x00000000#32))) (ix2 i l) := by
    unfold gated
    generalize mixed w b _ = M
    pointwise []
  have hs : ∀ c, select groups (quad v) (broadcast S512x256 (Scalar.ofBits .f32 0x00000000#32)) (ix2 c l) = spread (fun j l => v (ix2 j l)) c l := fun c => by
    show Scalar.select (groups (ix2 c l)) (quad v (ix2 c l)) (Ideal.ofBits .f32 0x00000000#32) = _
    rw [groups_at, quad_at, spread]
    split
    · rfl
    · show Ideal.ofBits .f32 0x00000000#32 = 0
      simp [Ideal.ofBits, Ideal.ieee]
  rw [e, mixed_at]
  simp only [hs, mixK]

/-! ## The results of a grid point -/

variable (x5 x6 : Vec Ideal S1x512 .f32) (x7 : Vec Ideal S1x256 .f32) (x8 : Vec Ideal S512x512 .bf16)

theorem ld_x : View.ld x0 r0_0 = x0 := by
  funext y
  pointwise []
  exact congrArg x0 ((eq_ix3 y).trans (congrArg (fun a => ix3 a (y 1) (y 2)) (Subsingleton.elim (α := Fin 1) _ _))).symm
theorem ld_g : View.ld x3 r0_1 = x3 := by
  funext y
  pointwise []
  exact congrArg x3 ((eq_ix2 y).trans (congrArg (fun a => ix2 a (y 1)) (Subsingleton.elim (α := Fin 1) _ _))).symm
theorem ld_s : View.ld x1 r0_2 = x1 := by
  funext y
  pointwise []
  exact congrArg x1 ((eq_ix3 y).trans (congrArg₂ (fun a b => ix3 a b (y 2)) (Subsingleton.elim (α := Fin 1) _ _) (Subsingleton.elim (α := Fin 1) _ _))).symm
theorem ld_w : View.ld x4 r0_3 = x4 := by funext y; pointwise []
theorem ld_o : k0_pay3 (F := Ideal) (View.ld x8 r0_4) = x8 := by funext y; pointwise [k0_pay3]
theorem ld_h : View.ld x5 r0_5 = x5 := by
  funext y
  pointwise []
  exact congrArg x5 ((eq_ix2 y).trans (congrArg (fun a => ix2 a (y 1)) (Subsingleton.elim (α := Fin 1) _ _))).symm
theorem ld_u : View.ld x7 r0_7 = x7 := by
  funext y
  pointwise []
  exact congrArg x7 ((eq_ix2 y).trans (congrArg (fun a => ix2 a (y 1)) (Subsingleton.elim (α := Fin 1) _ _))).symm
theorem ld_m : View.ld w r0_9 = w := by funext y; pointwise []
theorem ld_b : View.ld b r0_10 = b := by funext y; pointwise []

theorem pay30_eq (r : Fin 512) (j : Fin 2560) : k0_pay30 (F := Ideal) x0 x1 x2 x3 x4 x5 x6 x7 x8 w b (ix2 r j) = z x0 x1 x2 x3 x4 r j := by
  unfold k0_pay30
  rw [ld_x, ld_g, ld_s, ld_s, ld_w, pay2_at]

theorem slice11 (a : Fin 1) (r l : Fin 512) : k0_pay7 (F := Ideal) x8 (k0_pay4 x0 x3 x2 x1 x4) (k0_pay5 x5) (k0_pay6 x0 x3 x2 x1 x4) (ix3 a r l)
    = headK (fun l => z x0 x1 x2 x3 x4 r ⟨l, by omega⟩) (fun l => x5 (ix2 0 l)) (fun p l => x8 (ix2 p l)) l * Ideal.ofBits .f32 0x3E000000#32 := by
  have e : ∀ l, k0_pay4 (F := Ideal) x0 x3 x2 x1 x4 (ix2 r l) = z x0 x1 x2 x3 x4 r ⟨l, by omega⟩ := fun l => by
    rw [← pay2_at]
    unfold k0_pay4
    generalize k0_pay2 (F := Ideal) x0 x3 x2 x1 x4 = M
    pointwise []
  have e' : ∀ l, k0_pay5 (F := Ideal) x5 (ix2 0 l) = x5 (ix2 0 l) := fun l => by pointwise [k0_pay5]
  refine (pay7_at x8 (k0_pay5 x5) a r l (k0_pay4 x0 x3 x2 x1 x4)).trans ?_
  simp only [e, e']

theorem slice13 (a : Fin 1) (r l : Fin 512) : k0_pay9 (k0_pay30 (F := Ideal) x0 x1 x2 x3 x4 x5 x6 x7 x8 w b) (ix3 a r l) = z x0 x1 x2 x3 x4 r ⟨1024 + l, by omega⟩ := by
  rw [← pay30_eq (w := w) (b := b) (x5 := x5) (x6 := x6) (x7 := x7) (x8 := x8)]
  generalize k0_pay30 (F := Ideal) x0 x1 x2 x3 x4 x5 x6 x7 x8 w b = M
  pointwise [k0_pay9]

theorem slice12 (a : Fin 1) (r l : Fin 512) : k0_pay8 (k0_pay30 (F := Ideal) x0 x1 x2 x3 x4 x5 x6 x7 x8 w b) x8 x6 (ix3 a r l)
    = headK (fun l => z x0 x1 x2 x3 x4 r ⟨512 + l, by omega⟩) (fun l => x6 (ix2 0 l)) (fun p l => x8 (ix2 p l)) l := by
  rw [pay8_at]
  simp only [pay30_eq]

theorem slice15 (a : Fin 1) (r : Fin 512) (l : Fin 256) : k0_pay12 (k0_pay30 (F := Ideal) x0 x1 x2 x3 x4 x5 x6 x7 x8 w b) x7 (ix3 a r l)
    = unit (fun l => z x0 x1 x2 x3 x4 r ⟨1792 + l, by omega⟩) (fun l => x7 (ix2 0 l)) l := by
  have e := pay11_at (k0_pay30 (F := Ideal) x0 x1 x2 x3 x4 x5 x6 x7 x8 w b) x7 r l
  simp only [pay30_eq] at e
  rw [← e]
  unfold k0_pay12
  generalize k0_pay11 (F := Ideal) _ x7 = M
  pointwise []

theorem slice16 (a : Fin 1) (r : Fin 512) (l : Fin 256) : k0_pay13 (k0_pay30 (F := Ideal) x0 x1 x2 x3 x4 x5 x6 x7 x8 w b) (ix3 a r l) = z x0 x1 x2 x3 x4 r ⟨2048 + l, by omega⟩ := by
  rw [← pay30_eq (w := w) (b := b) (x5 := x5) (x6 := x6) (x7 := x7) (x8 := x8)]
  generalize k0_pay30 (F := Ideal) x0 x1 x2 x3 x4 x5 x6 x7 x8 w b = M
  pointwise [k0_pay13]

theorem slice17 (a : Fin 1) (r : Fin 512) (l : Fin 256) : k0_pay14 (k0_pay30 (F := Ideal) x0 x1 x2 x3 x4 x5 x6 x7 x8 w b) (ix3 a r l) = z x0 x1 x2 x3 x4 r ⟨2304 + l, by omega⟩ := by
  rw [← pay30_eq (w := w) (b := b) (x5 := x5) (x6 := x6) (x7 := x7) (x8 := x8)]
  generalize k0_pay30 (F := Ideal) x0 x1 x2 x3 x4 x5 x6 x7 x8 w b = M
  pointwise [k0_pay14]

/-- Query lanes. -/
theorem out11_at (r : Fin 512) (l : Fin 512) (y : S1x512x512.Idx) (hy1 : (y 1 : ℕ) = r) (hy2 : (y 2 : ℕ) = l) :
    out0_11 (F := Ideal) x0 x1 x2 x3 x4 x5 x6 x7 x8 w b y
      = headK (fun l => z x0 x1 x2 x3 x4 r ⟨l, by omega⟩) (fun l => x5 (ix2 0 l)) (fun p l => x8 (ix2 p l)) l * Ideal.ofBits .f32 0x3E000000#32 := by
  unfold out0_11 k0_pay31
  canon_tiles x g
  case piece0 =>
    obtain rfl : r = x 1 := by ext; omega
    obtain rfl : l = x 2 := by ext; omega
    rw [ld_o, ld_x, ld_g, ld_s, ld_s, ld_w, ld_h]
    exact (congrArg _ (eq_ix3 x)).trans (slice11 x0 x1 x2 x3 x4 x5 x8 (x 0) (x 1) (x 2))

/-- Key lanes. -/
theorem out12_at (r : Fin 512) (l : Fin 512) (y : S1x512x512.Idx) (hy1 : (y 1 : ℕ) = r) (hy2 : (y 2 : ℕ) = l) :
    out0_12 (F := Ideal) x0 x1 x2 x3 x4 x5 x6 x7 x8 w b y
      = headK (fun l => z x0 x1 x2 x3 x4 r ⟨512 + l, by omega⟩) (fun l => x6 (ix2 0 l)) (fun p l => x8 (ix2 p l)) l := by
  unfold out0_12 k0_pay31
  canon_tiles x g
  case piece0 =>
    obtain rfl : r = x 1 := by ext; omega
    obtain rfl : l = x 2 := by ext; omega
    rw [ld_o, ld_h]
    exact (congrArg _ (eq_ix3 x)).trans (slice12 x0 x1 x2 x3 x4 w b x5 x6 x7 x8 (x 0) (x 1) (x 2))

/-- Value lanes. -/
theorem out13_at (r : Fin 512) (l : Fin 512) (y : S1x512x512.Idx) (hy1 : (y 1 : ℕ) = r) (hy2 : (y 2 : ℕ) = l) :
    out0_13 (F := Ideal) x0 x1 x2 x3 x4 x5 x6 x7 x8 w b y
      = z x0 x1 x2 x3 x4 r ⟨1024 + l, by omega⟩ := by
  unfold out0_13
  canon_tiles x g
  case piece0 =>
    obtain rfl : r = x 1 := by ext; omega
    obtain rfl : l = x 2 := by ext; omega
    exact (congrArg _ (eq_ix3 x)).trans (slice13 x0 x1 x2 x3 x4 w b x5 x6 x7 x8 (x 0) (x 1) (x 2))

/-- The gate's normalised lanes. -/
theorem out15_at (r : Fin 512) (l : Fin 256) (y : S1x512x256.Idx) (hy1 : (y 1 : ℕ) = r) (hy2 : (y 2 : ℕ) = l) :
    out0_15 (F := Ideal) x0 x1 x2 x3 x4 x5 x6 x7 x8 w b y
      = unit (fun l => z x0 x1 x2 x3 x4 r ⟨1792 + l, by omega⟩) (fun l => x7 (ix2 0 l)) l := by
  unfold out0_15
  canon_tiles x g
  case piece0 =>
    obtain rfl : r = x 1 := by ext; omega
    obtain rfl : l = x 2 := by ext; omega
    rw [ld_u]
    exact (congrArg _ (eq_ix3 x)).trans (slice15 x0 x1 x2 x3 x4 w b x5 x6 x7 x8 (x 0) (x 1) (x 2))

/-- The recurrence's lanes. -/
theorem out16_at (r : Fin 512) (l : Fin 256) (y : S1x512x256.Idx) (hy1 : (y 1 : ℕ) = r) (hy2 : (y 2 : ℕ) = l) :
    out0_16 (F := Ideal) x0 x1 x2 x3 x4 x5 x6 x7 x8 w b y
      = z x0 x1 x2 x3 x4 r ⟨2048 + l, by omega⟩ := by
  unfold out0_16
  canon_tiles x g
  case piece0 =>
    obtain rfl : r = x 1 := by ext; omega
    obtain rfl : l = x 2 := by ext; omega
    exact (congrArg _ (eq_ix3 x)).trans (slice16 x0 x1 x2 x3 x4 w b x5 x6 x7 x8 (x 0) (x 1) (x 2))

/-- The recurrence's gate lanes. -/
theorem out17_at (r : Fin 512) (l : Fin 256) (y : S1x512x256.Idx) (hy1 : (y 1 : ℕ) = r) (hy2 : (y 2 : ℕ) = l) :
    out0_17 (F := Ideal) x0 x1 x2 x3 x4 x5 x6 x7 x8 w b y
      = z x0 x1 x2 x3 x4 r ⟨2304 + l, by omega⟩ := by
  unfold out0_17
  canon_tiles x g
  case piece0 =>
    obtain rfl : r = x 1 := by ext; omega
    obtain rfl : l = x 2 := by ext; omega
    exact (congrArg _ (eq_ix3 x)).trans (slice17 x0 x1 x2 x3 x4 w b x5 x6 x7 x8 (x 0) (x 1) (x 2))

/-- The gate's product at chunk `k`, whose rows `A` and `B` hold. -/
theorem chunk_at (k : Fin 4) (A B : FVec Ideal S128x256 .f32)
    (hA : ∀ i l, A (ix2 i l) = k0_pay10 (k0_pay30 (F := Ideal) x0 x1 x2 x3 x4 x5 x6 x7 x8 w b) (ix2 ⟨k * 128 + i, by omega⟩ l))
    (hB : ∀ i l, B (ix2 i l) = k0_pay11 (k0_pay30 (F := Ideal) x0 x1 x2 x3 x4 x5 x6 x7 x8 w b) x7 (ix2 ⟨k * 128 + i, by omega⟩ l))
    (a : Fin 1) (i : Fin 128) (l : Fin 256) :
    gated A B groups w b (ix3 a i l) = z x0 x1 x2 x3 x4 ⟨k * 128 + i, by omega⟩ ⟨1536 + l, by omega⟩ * mixK (fun c => w (ix3 0 i c)) (fun c => w (ix3 1 i c))
      (fun j l => unit (fun l => z x0 x1 x2 x3 x4 ⟨k * 128 + j, by omega⟩ ⟨1792 + l, by omega⟩) (fun l => x7 (ix2 0 l)) l) (b (ix2 i l)) l := by
  have e : k0_pay10 (k0_pay30 (F := Ideal) x0 x1 x2 x3 x4 x5 x6 x7 x8 w b) (ix2 ⟨k * 128 + i, by omega⟩ l)
      = z x0 x1 x2 x3 x4 ⟨k * 128 + i, by omega⟩ ⟨1536 + l, by omega⟩ := by
    rw [← pay30_eq (w := w) (b := b) (x5 := x5) (x6 := x6) (x7 := x7) (x8 := x8)]
    generalize k0_pay30 (F := Ideal) x0 x1 x2 x3 x4 x5 x6 x7 x8 w b = M
    pointwise [k0_pay10]
  rw [gated_at, hA, e]
  simp only [hB, pay11_at, pay30_eq]

/-- The gate's products. -/
theorem out14_at (k : Fin 4) (i : Fin 128) (l : Fin 256) (y : S1x512x256.Idx) (hy1 : (y 1 : ℕ) = k * 128 + i) (hy2 : (y 2 : ℕ) = l) :
    out0_14 (F := Ideal) x0 x1 x2 x3 x4 x5 x6 x7 x8 w b y
      = z x0 x1 x2 x3 x4 ⟨k * 128 + i, by omega⟩ ⟨1536 + l, by omega⟩ * mixK (fun c => w (ix3 0 i c)) (fun c => w (ix3 1 i c))
        (fun j l => unit (fun l => z x0 x1 x2 x3 x4 ⟨k * 128 + j, by omega⟩ ⟨1792 + l, by omega⟩) (fun l => x7 (ix2 0 l)) l) (b (ix2 i l)) l := by
  unfold out0_14 k0_pay32 k0_pay33 k0_pay34
  rw [ld_m, ld_b, ld_u, pay1_eq, pay28_eq, pay27_eq, pay19_eq]
  have hc := chunk_at x0 x1 x2 x3 x4 w b x5 x6 x7 x8 k
  generalize k0_pay10 (k0_pay30 (F := Ideal) x0 x1 x2 x3 x4 x5 x6 x7 x8 w b) = A at hc ⊢
  generalize k0_pay11 (k0_pay30 (F := Ideal) x0 x1 x2 x3 x4 x5 x6 x7 x8 w b) x7 = B at hc ⊢
  canon_tiles x g
  all_goals
    have hk : (k : ℕ) < 4 := k.isLt
    have hi : (i : ℕ) < 128 := i.isLt
    obtain rfl : l = x 2 := by ext; omega
    obtain rfl : i = x 1 := by ext; omega
    refine (congrArg _ (eq_ix3 x)).trans (hc _ _ (fun i l => ?_) (fun i l => ?_) _ _ _)
    all_goals
      pointwise []
      refine congrArg _ (congrArg (ix2 · _) (Fin.ext ?_))
      dsimp only; omega

end Cert.Kernel2Ideal.Block

end
-- ==== Proof.Stage2.lean ====
module

public import proofs.«01_k».proof.Proof.Gen.Reference2Ideal.Run
public import Idealize.ShloMosaic.Lib.Pipeline.ValueKit
public import proofs.«01_k».proof.Proof.Proj

@[expose] public section

/-! The reference program of the projections, cut into stages and read at an index. -/

set_option maxRecDepth 16384

noncomputable section

open Idealize.ShloMosaic Idealize.ShloMosaic.TcCoe Idealize.SL.Sem

namespace Cert.Reference2Ideal.Stage

open Cert.Reference2Ideal Cert.Reference2Ideal.Gen Cert.Reference2Ideal.Value Cert.Proj

/-- The rows, normalised, scaled, shifted and projected. -/
def z (x : FVec Ideal S4x4096x1024 .f32) (sh sc : FVec Ideal S4x1x1024 .f32) (nm : FVec Ideal S1024 .f32) (w : FVec Ideal S1024x2560 .f32) : FVec Ideal S4x4096x2560 .f32 :=
  Host.dotGeneral dot_S4x4096x1024_S1024x2560_S4x4096x2560_2_0_01_1_n_n none (addf (mulf (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 nm))) (broadcastInDim S4x4096x1024 ![0, 1, 2] bcast_S4x1x1024_S4x4096x1024_0_1_2 (addf (broadcastInDim S4x1x1024 ![] bcast_S_S4x1x1024 (constant S_ .f32 0x3F800000#32)) sc))) (broadcastInDim S4x4096x1024 ![0, 1, 2] bcast_S4x1x1024_S4x4096x1024_0_1_2 sh)) w

/-- The lanes' heads, each normalised and scaled. -/
def heads (a : FVec Ideal S4x4096x512 .f32) (g : FVec Ideal S64 .f32) : FVec Ideal S4x4096x8x64 .f32 :=
  mulf (mulf (shapeCast _ a shapeCasts_S4x4096x512_S4x4096x8x64) (broadcastInDim S4x4096x8x64 ![0, 1, 2, 3] bcast_S4x4096x8x1_S4x4096x8x64_0_1_2_3 (Host.rsqrt (addf (Host.divf (broadcastInDim S4x4096x8x1 ![0, 1, 2] bcast_S4x4096x8_S4x4096x8x1_0_1_2 (Host.reduceAdd (mulf (shapeCast _ a shapeCasts_S4x4096x512_S4x4096x8x64) (shapeCast _ a shapeCasts_S4x4096x512_S4x4096x8x64)) (constant S_ .f32 0x00000000#32) reducesTo_S4x4096x8x64_S4x4096x8_d3 h_S_)) (broadcastInDim S4x4096x8x1 ![] bcast_S_S4x4096x8x1 (constant S_ .f32 0x42800000#32))) (broadcastInDim S4x4096x8x1 ![] bcast_S_S4x4096x8x1 (constant S_ .f32 0x358637BD#32)))))) (broadcastInDim S4x4096x8x64 ![0, 1, 2, 3] bcast_S1x1x1x64_S4x4096x8x64_0_1_2_3 (broadcastInDim S1x1x1x64 ![3] bcast_S64_S1x1x1x64_3 g))

/-- The queries. -/
def query (Z : FVec Ideal S4x4096x2560 .f32) (g : FVec Ideal S64 .f32) : FVec Ideal S4x4096x512 .f32 :=
  shapeCast _ (mulf (heads (extractStridedSlice S4x4096x512 ![0, 0, 0] Z slices_S4x4096x2560_S4x4096x512_0_0_0) g) (broadcastInDim S4x4096x8x64 ![] bcast_S_S4x4096x8x64 (constant S_ .f32 0x3E000000#32))) shapeCasts_S4x4096x8x64_S4x4096x512

/-- The keys. -/
def key (Z : FVec Ideal S4x4096x2560 .f32) (g : FVec Ideal S64 .f32) : FVec Ideal S4x4096x512 .f32 :=
  shapeCast _ (heads (extractStridedSlice S4x4096x512 ![0, 0, 512] Z slices_S4x4096x2560_S4x4096x512_0_0_512) g) shapeCasts_S4x4096x8x64_S4x4096x512

/-- The values. -/
def value (Z : FVec Ideal S4x4096x2560 .f32) : FVec Ideal S4x4096x512 .f32 :=
  extractStridedSlice S4x4096x512 ![0, 0, 1024] Z slices_S4x4096x2560_S4x4096x512_0_0_1024

/-- A gate's normalised rows. -/
def gate (Z : FVec Ideal S4x4096x2560 .f32) (g : FVec Ideal S256 .f32) : FVec Ideal S4x4096x256 .f32 :=
  mulf (mulf (extractStridedSlice S4x4096x256 ![0, 0, 1792] Z slices_S4x4096x2560_S4x4096x256_0_0_1792) (broadcastInDim S4x4096x256 ![0, 1, 2] bcast_S4x4096x1_S4x4096x256_0_1_2 (Host.rsqrt (addf (Host.divf (broadcastInDim S4x4096x1 ![0, 1] bcast_S4x4096_S4x4096x1_0_1 (Host.reduceAdd (mulf (extractStridedSlice S4x4096x256 ![0, 0, 1792] Z slices_S4x4096x2560_S4x4096x256_0_0_1792) (extractStridedSlice S4x4096x256 ![0, 0, 1792] Z slices_S4x4096x2560_S4x4096x256_0_0_1792)) (constant S_ .f32 0x00000000#32) reducesTo_S4x4096x256_S4x4096_d2 h_S_)) (broadcastInDim S4x4096x1 ![] bcast_S_S4x4096x1 (constant S_ .f32 0x43800000#32))) (broadcastInDim S4x4096x1 ![] bcast_S_S4x4096x1 (constant S_ .f32 0x358637BD#32)))))) (broadcastInDim S4x4096x256 ![0, 1, 2] bcast_S1x1x256_S4x4096x256_0_1_2 (broadcastInDim S1x1x256 ![2] bcast_S256_S1x1x256_2 g))

/-- The mix's weights, zero above the diagonal. -/
def tril (w : FVec Ideal S4x128x128 .f32) : FVec Ideal S4x128x128 .f32 :=
  select (broadcastInDim S4x128x128 ![1, 2] bcast_S128x128_S4x128x128_1_2 (cmpi .sge (addi (iotaInDim S128x128 32 0) (broadcastInDim S128x128 ![] bcast_S_S128x128 (constantI S_ 32 0#32))) (iotaInDim S128x128 32 1))) w (broadcastInDim S4x128x128 ![] bcast_S_S4x128x128 (constant S_ .f32 0x00000000#32))

/-- The rows mixed over their chunk and multiplied by the other half. -/
def mix (u v : FVec Ideal S4x4096x256 .f32) (w : FVec Ideal S4x128x128 .f32) (b : FVec Ideal S4x128 .f32) : FVec Ideal S4x4096x256 .f32 :=
  shapeCast _ (mulf (shapeCast _ u shapeCasts_S4x4096x256_S4x32x128x4x64) (addf (transpose S4x32x128x4x64 [1, 2, 4, 0, 3] (Host.dotGeneral dot_S4x32x128x4x64_S4x128x128_S4x4x32x64x128_2_2_014_1_3_0 none (shapeCast _ v shapeCasts_S4x4096x256_S4x32x128x4x64) w) transposes_S4x4x32x64x128_S4x32x128x4x64_1_2_4_0_3) (broadcastInDim S4x32x128x4x64 ![0, 1, 2, 3, 4] bcast_S1x1x128x4x1_S4x32x128x4x64_0_1_2_3_4 (broadcastInDim S1x1x128x4x1 ![2, 3] bcast_S128x4_S1x1x128x4x1_2_3 (transpose S128x4 [1, 0] b transposes_S4x128_S128x4_1_0))))) shapeCasts_S4x32x128x4x64_S4x4096x256

/-- The first half of the gate. -/
def half (Z : FVec Ideal S4x4096x2560 .f32) : FVec Ideal S4x4096x256 .f32 :=
  extractStridedSlice S4x4096x256 ![0, 0, 1536] Z slices_S4x4096x2560_S4x4096x256_0_0_1536

/-- The recurrence's rows. -/
def rec0 (Z : FVec Ideal S4x4096x2560 .f32) : FVec Ideal S4x4096x256 .f32 :=
  extractStridedSlice S4x4096x256 ![0, 0, 2048] Z slices_S4x4096x2560_S4x4096x256_0_0_2048

/-- The recurrence's gate. -/
def rec1 (Z : FVec Ideal S4x4096x2560 .f32) : FVec Ideal S4x4096x256 .f32 :=
  extractStridedSlice S4x4096x256 ![0, 0, 2304] Z slices_S4x4096x2560_S4x4096x256_0_0_2304

section Results

variable (m : (ℓ : Loc nD τ sig) → Buf (Elt Ideal) ℓ) (c : Dev nD)

/-- The projections of the memory's arguments. -/
abbrev zOf : FVec Ideal S4x4096x2560 .f32 :=
  z (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem res0 : res_out0 (F := Ideal) m c = query (zOf m c) (m ((c.tc : Thread nD τ).loc main_arg5)) := by
  delta res_out0; unfold res_main_v81; rfl

theorem res1 : res_out1 (F := Ideal) m c = key (zOf m c) (m ((c.tc : Thread nD τ).loc main_arg6)) := by
  delta res_out1; unfold res_main_v82; rfl

theorem res3 : res_out3 (F := Ideal) m c = mix (half (zOf m c)) (gate (zOf m c) (m ((c.tc : Thread nD τ).loc main_arg7))) (tril (m ((c.tc : Thread nD τ).loc main_arg8))) (m ((c.tc : Thread nD τ).loc main_arg9)) := by
  delta res_out3; unfold res_main_v80; rfl

theorem res4 : res_out4 (F := Ideal) m c = gate (zOf m c) (m ((c.tc : Thread nD τ).loc main_arg7)) := by
  delta res_out4; unfold res_main_v69; rfl

end Results

/-! ## The stages at an index -/

variable (x : FVec Ideal S4x4096x1024 .f32) (sh sc : FVec Ideal S4x1x1024 .f32) (nm : FVec Ideal S1024 .f32) (w : FVec Ideal S1024x2560 .f32)
variable (Z : FVec Ideal S4x4096x2560 .f32)

set_option maxHeartbeats 4000000 in
theorem z_at (b : Fin 4) (r : Fin 4096) (j : Fin 2560) : z x sh sc nm w (ix3 b r j)
    = proj (fun k => x (ix3 b r k)) (fun k => nm (ix1 k)) (fun k => sc (ix3 b 0 k)) (fun k => sh (ix3 b 0 k)) (fun k j => w (ix2 k j)) j := by
  unfold z
  pointwise [proj, hid, rms]

set_option maxHeartbeats 4000000 in
theorem heads_at (a : FVec Ideal S4x4096x512 .f32) (g : FVec Ideal S64 .f32) (b : Fin 4) (r : Fin 4096) (h : Fin 8) (e : Fin 64) :
    heads a g (ix4 b r h e) = headR (fun l => a (ix3 b r l)) (fun e => g (ix1 e)) h e := by
  unfold heads
  pointwise [headR, rms, lane]

set_option maxHeartbeats 4000000 in
theorem flat_at (a : FVec Ideal S4x4096x8x64 .f32) (b : Fin 4) (r : Fin 4096) (h : Fin 8) (e : Fin 64) :
    shapeCast S4x4096x512 a shapeCasts_S4x4096x8x64_S4x4096x512 (ix3 b r (lane h e)) = a (ix4 b r h e) := by
  pointwise [lane]

theorem key_at (g : FVec Ideal S64 .f32) (b : Fin 4) (r : Fin 4096) (h : Fin 8) (e : Fin 64) :
    key Z g (ix3 b r (lane h e)) = headR (fun l => Z (ix3 b r ⟨512 + l, by omega⟩)) (fun e => g (ix1 e)) h e := by
  unfold key
  rw [flat_at, heads_at]
  pointwise [headR]

theorem query_at (g : FVec Ideal S64 .f32) (b : Fin 4) (r : Fin 4096) (h : Fin 8) (e : Fin 64) :
    query Z g (ix3 b r (lane h e)) = headR (fun l => Z (ix3 b r ⟨l, by omega⟩)) (fun e => g (ix1 e)) h e * Ideal.ofBits .f32 0x3E000000#32 := by
  unfold query
  rw [flat_at]
  show heads _ _ _ * _ = _
  rw [heads_at]
  pointwise [headR]

theorem value_at (b : Fin 4) (r : Fin 4096) (l : Fin 512) : value Z (ix3 b r l) = Z (ix3 b r ⟨1024 + l, by omega⟩) := by
  pointwise [value]

theorem half_at (b : Fin 4) (r : Fin 4096) (l : Fin 256) : half Z (ix3 b r l) = Z (ix3 b r ⟨1536 + l, by omega⟩) := by
  pointwise [half]

theorem rec0_at (b : Fin 4) (r : Fin 4096) (l : Fin 256) : rec0 Z (ix3 b r l) = Z (ix3 b r ⟨2048 + l, by omega⟩) := by
  pointwise [rec0]

theorem rec1_at (b : Fin 4) (r : Fin 4096) (l : Fin 256) : rec1 Z (ix3 b r l) = Z (ix3 b r ⟨2304 + l, by omega⟩) := by
  pointwise [rec1]

set_option maxHeartbeats 4000000 in
theorem gate_at (g : FVec Ideal S256 .f32) (b : Fin 4) (r : Fin 4096) (l : Fin 256) :
    gate Z g (ix3 b r l) = unit (fun l => Z (ix3 b r ⟨1792 + l, by omega⟩)) (fun l => g (ix1 l)) l := by
  unfold gate
  pointwise [unit, rms]

theorem tril_at (w : FVec Ideal S4x128x128 .f32) (g : Fin 4) (i j : Fin 128) :
    ∃ c : BitVec 1, tril w (ix3 g i j) = Scalar.select c (w (ix3 g i j)) 0 := by
  unfold tril
  generalize cmpi .sge (addi (iotaInDim S128x128 32 0) (broadcastInDim S128x128 ![] bcast_S_S128x128 (constantI S_ 32 0#32))) (iotaInDim S128x128 32 1) = N
  exact ⟨N (ix2 i j), by pointwise []⟩

set_option maxHeartbeats 4000000 in
theorem mix_at (u v : FVec Ideal S4x4096x256 .f32) (w : FVec Ideal S4x128x128 .f32) (bb : FVec Ideal S4x128 .f32) (b : Fin 4) (n : Fin 32) (i : Fin 128) (g : Fin 4) (e : Fin 64) :
    mix u v w bb (ix3 b ⟨n * 128 + i, by omega⟩ ⟨g * 64 + e, by omega⟩)
      = u (ix3 b ⟨n * 128 + i, by omega⟩ ⟨g * 64 + e, by omega⟩) * ((∑ j : Fin 128, v (ix3 b ⟨n * 128 + j, by omega⟩ ⟨g * 64 + e, by omega⟩) * w (ix3 g i j)) + bb (ix2 g i)) := by
  unfold mix
  pointwise []

end Cert.Reference2Ideal.Stage

end
-- ==== Proof.Host2.lean ====
module

public import proofs.«01_k».proof.Proof.Gen.Kernel2Ideal.Frame
public import proofs.«01_k».proof.Proof.Proj
public import proofs.«01_k».proof.Proof.Stage2

@[expose] public section

/-! The operands the host computes for the projections, at an index. -/

set_option maxRecDepth 16384

noncomputable section

open Idealize.ShloMosaic Idealize.ShloMosaic.TcCoe Idealize.SL Idealize.SL.Sem

namespace Cert.Kernel2Ideal.Host2

open Cert.Kernel2Ideal Cert.Kernel2Ideal.Gen Cert.Reference2Ideal

variable (m : (ℓ : Loc nD τ sig) → Buf (Elt Ideal) ℓ) (c : Dev nD)

/-- A lane's head. -/
def head : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32))) (broadcastInDim S512 ![] bcast_S_S512 (constantI S_ 32 0#32))))
    (subi (Host.divsi (iotaInDim S512 32 0) (broadcastInDim S512 ![] bcast_S_S512 (constantI S_ 32 64#32))) (broadcastInDim S512 ![] bcast_S_S512 (constantI S_ 32 1#32)))
    (Host.divsi (iotaInDim S512 32 0) (broadcastInDim S512 ![] bcast_S_S512 (constantI S_ 32 64#32)))

/-- Ones where two lanes are of one head. -/
def ones (h : IVec S512 32) : FVec Ideal S512x512 .bf16 :=
  truncf .bf16 (uitofp .f32 (cmpi .eq (broadcastInDim S512x512 ![0, 1] bcast_S512x1_S512x512_0_1 (broadcastInDim S512x1 ![0] bcast_S512_S512x1_0 h))
    (broadcastInDim S512x512 ![0, 1] bcast_S1x512_S512x512_0_1 (broadcastInDim S1x512 ![1] bcast_S512_S1x512_1 h))) : FVec Ideal S512x512 .f32) bitsLt_bf16_f32

/-- A head's gains, once per head. -/
def tiled (g : FVec Ideal S64 .f32) : FVec Ideal S1x512 .f32 :=
  broadcastInDim S1x512 ![1] bcast_S512_S1x512_1 (shapeCast S512 (broadcastInDim S8x64 ![0, 1] bcast_S1x64_S8x64_0_1 (shapeCast S1x64 g shapeCasts_S64_S1x64)) shapeCasts_S8x64_S512)

/-- The mix's weights, groups side by side. -/
def flat (w : FVec Ideal S4x128x128 .f32) : FVec Ideal S128x512 .f32 :=
  shapeCast S128x512 (transpose S128x4x128 [1, 0, 2] w transposes_S4x128x128_S128x4x128_1_0_2) shapeCasts_S128x4x128_S128x512

/-- The weights and what their rounding leaves. -/
def pair (w : FVec Ideal S128x512 .f32) : FVec Ideal S2x128x512 .bf16 :=
  concatenate S2x128x512 0 [⟨S1x128x512, broadcastInDim S1x128x512 ![1, 2] bcast_S128x512_S1x128x512_1_2 (truncf .bf16 w bitsLt_bf16_f32 : FVec Ideal S128x512 .bf16)⟩,
    ⟨S1x128x512, broadcastInDim S1x128x512 ![1, 2] bcast_S128x512_S1x128x512_1_2 (truncf .bf16 (subf w (extf .f32 (truncf .bf16 w bitsLt_bf16_f32 : FVec Ideal S128x512 .bf16) bitsLt_bf16_f32)) bitsLt_bf16_f32 : FVec Ideal S128x512 .bf16)⟩] concatenates_S1x128x512_S1x128x512_S2x128x512_d0

/-- The mix's bias, once per lane of a group. -/
def bias (b : FVec Ideal S4x128 .f32) : FVec Ideal S128x256 .f32 :=
  shapeCast S128x256 (broadcastInDim S128x4x64 ![0, 1] bcast_S128x4_S128x4x64_0_1 (transpose S128x4 [1, 0] b transposes_S4x128_S128x4_1_0)) shapeCasts_S128x4x64_S128x256

set_option maxHeartbeats 16000000 in
/-- The operands when the grid is entered. -/
theorem operands :
    V m c main_v32 = ones head
    ∧ V m c main_v18 = tiled (m ((c : Thread nD τ).loc main_arg5))
    ∧ V m c main_v22 = tiled (m ((c : Thread nD τ).loc main_arg6))
    ∧ V m c main_v13 = broadcastInDim S1x1024 ![1] bcast_S1024_S1x1024_1 (m ((c : Thread nD τ).loc main_arg3) : FVec Ideal S1024 .f32)
    ∧ V m c main_v23 = broadcastInDim S1x256 ![1] bcast_S256_S1x256_1 (m ((c : Thread nD τ).loc main_arg7) : FVec Ideal S256 .f32)
    ∧ V m c main_v14 = (truncf .bf16 (m ((c : Thread nD τ).loc main_arg4) : FVec Ideal S1024x2560 .f32) bitsLt_bf16_f32 : FVec Ideal S1024x2560 .bf16)
    ∧ V m c main_v9 = pair (flat (Stage.tril (m ((c : Thread nD τ).loc main_arg8))))
    ∧ V m c main_v12 = bias (m ((c : Thread nD τ).loc main_arg9)) := by
  refine ⟨?_, ?_, ?_, ?_, ?_, ?_, ?_, ?_⟩
  all_goals
    unfold V
    simp only [hostOps0, hostOps0_1, hostOps0_2, hostOps0_3, List.flatten_cons, List.flatten_nil, List.cons_append, List.nil_append, List.append_nil, StableHlo.TRef.nullary, StableHlo.TRef.binary, StableHlo.TRef.ternary, StableHlo.TRef.unary, StableHlo.TRef.toBuf, StableHlo.TRef.ofBuf, cast_eq]
    after_results_simp
    all_goals rfl

theorem head_at (l : Fin 512) : head (ix1 l) = BitVec.ofNat 32 ((l : ℕ) / 64) := by
  pointwise [head]
  revert l
  decide +kernel

theorem same : ∀ g h : Fin 8, IntOp.cmpi .eq (BitVec.ofNat 32 g) (BitVec.ofNat 32 h) = if (g : ℕ) = h then 1#1 else 0#1 := by decide +kernel

theorem ones_at (p l : Fin 512) : ones head (ix2 p l) = if (p : ℕ) / 64 = (l : ℕ) / 64 then 1 else 0 := by
  have e : ones head (ix2 p l) = FloatOps.uitofp (F := Ideal) .f32 (IntOp.cmpi .eq (head (ix1 p)) (head (ix1 l))) := by
    generalize head = H
    pointwise [ones]
  have s := same ⟨(p : ℕ) / 64, by omega⟩ ⟨(l : ℕ) / 64, by omega⟩
  dsimp only at s
  rw [e, head_at, head_at, s]
  split <;> simp [FloatOps.uitofp]

theorem tiled_at (g : FVec Ideal S64 .f32) (h : Fin 8) (e : Fin 64) : tiled g (ix2 0 (Proj.lane h e)) = g (ix1 e) := by
  pointwise [tiled, Proj.lane]

theorem flat_at (w : FVec Ideal S4x128x128 .f32) (i : Fin 128) (g : Fin 4) (j : Fin 128) :
    flat w (ix2 i (finProdFinEquiv (g, j) : Fin (4 * 128))) = w (ix3 g i j) := by
  have : (finProdFinEquiv (g, j) : Fin (4 * 128)) = ⟨g * 128 + j, by omega⟩ := Fin.ext (by show (j : ℕ) + 128 * g = g * 128 + j; omega)
  rw [this]
  pointwise [flat]

theorem hi_at (w : FVec Ideal S128x512 .f32) (i : Fin 128) (k : Fin 512) : pair w (ix3 0 i k) = w (ix2 i k) := by
  pointwise [pair]

theorem lo_at (w : FVec Ideal S128x512 .f32) (i : Fin 128) (k : Fin 512) : pair w (ix3 1 i k) = w (ix2 i k) - w (ix2 i k) := by
  pointwise [pair]

theorem bias_at (b : FVec Ideal S4x128 .f32) (i : Fin 128) (g : Fin 4) (e : Fin 64) : bias b (ix2 i ⟨g * 64 + e, by omega⟩) = b (ix2 g i) := by
  pointwise [bias]

end Cert.Kernel2Ideal.Host2

end
-- ==== Proof.Bridge2.lean ====
module

public import proofs.«01_k».proof.Proof.Gen.Kernel2Ideal.Value
public import proofs.«01_k».proof.Proof.Block2
public import proofs.«01_k».proof.Proof.Host2

@[expose] public section

/-! The grid points' blocks of the projections assembled: the kernel's results are the reference's. -/

set_option maxRecDepth 16384

noncomputable section

open Idealize.ShloMosaic Idealize.ShloMosaic.TcCoe Idealize.SL Idealize.SL.Sem

namespace Cert.Kernel2Ideal.Bridge

open Cert.Kernel2Ideal Cert.Kernel2Ideal.Gen Cert.Reference2Ideal Cert.Proj Cert.Kernel2Ideal.Host2

variable (m : (ℓ : Loc nD τ sig) → Buf (Elt Ideal) ℓ) (c : Dev nD)

abbrev X : FVec Ideal S4x4096x1024 .f32 := m ((c : Thread nD τ).loc main_arg0)
abbrev Sh : FVec Ideal S4x1x1024 .f32 := m ((c : Thread nD τ).loc main_arg1)
abbrev Sc : FVec Ideal S4x1x1024 .f32 := m ((c : Thread nD τ).loc main_arg2)
abbrev Nm : FVec Ideal S1024 .f32 := m ((c : Thread nD τ).loc main_arg3)
abbrev W : FVec Ideal S1024x2560 .f32 := m ((c : Thread nD τ).loc main_arg4)
abbrev Qg : FVec Ideal S64 .f32 := m ((c : Thread nD τ).loc main_arg5)
abbrev Kg : FVec Ideal S64 .f32 := m ((c : Thread nD τ).loc main_arg6)
abbrev Gn : FVec Ideal S256 .f32 := m ((c : Thread nD τ).loc main_arg7)
abbrev Ws : FVec Ideal S4x128x128 .f32 := m ((c : Thread nD τ).loc main_arg8)
abbrev Bs : FVec Ideal S4x128 .f32 := m ((c : Thread nD τ).loc main_arg9)

/-- The projections of the memory's arguments. -/
abbrev Z : FVec Ideal S4x4096x2560 .f32 := Stage.z (X m c) (Sh m c) (Sc m c) (Nm m c) (W m c)

theorem idx : ∀ t : Fin cfg0.N,
    win0_0.index t = ![(grid0.coords t 0).val, (grid0.coords t 1).val, 0]
    ∧ win0_1.index t = ![(grid0.coords t 0).val, 0, 0]
    ∧ win0_2.index t = ![(grid0.coords t 0).val, 0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0, 0]
    ∧ win0_10.index t = ![0, 0]
    ∧ win0_11.index t = ![(grid0.coords t 0).val, (grid0.coords t 1).val, 0]
    ∧ win0_12.index t = ![(grid0.coords t 0).val, (grid0.coords t 1).val, 0]
    ∧ win0_13.index t = ![(grid0.coords t 0).val, (grid0.coords t 1).val, 0]
    ∧ win0_14.index t = ![(grid0.coords t 0).val, (grid0.coords t 1).val, 0]
    ∧ win0_15.index t = ![(grid0.coords t 0).val, (grid0.coords t 1).val, 0]
    ∧ win0_16.index t = ![(grid0.coords t 0).val, (grid0.coords t 1).val, 0]
    ∧ win0_17.index t = ![(grid0.coords t 0).val, (grid0.coords t 1).val, 0] :=
  (by decide +kernel : ∀ t : Fin grid0.N, _)

theorem row_lt (t : Fin cfg0.N) (r : Fin 512) : (grid0.coords t 1 : ℕ) * 512 + r < 4096 := by
  have h2 : (grid0.coords t 1 : ℕ) < 8 := (grid0.coords t 1).isLt
  omega

/-- The batch that a grid point's block lies in. -/
abbrev batch (t : Fin cfg0.N) : Fin 4 := ⟨(grid0.coords t 0 : ℕ), (grid0.coords t 0).isLt⟩

/-- The row of the sequence that a grid point's row is. -/
abbrev row (t : Fin cfg0.N) (r : Fin 512) : Fin 4096 := ⟨(grid0.coords t 1 : ℕ) * 512 + r, row_lt t r⟩

theorem read0 (t : Fin cfg0.N) (r : Fin 512) (k : Fin 1024) : (iblk m c 0 t : FVec Ideal S1x512x1024 .f32) (ix3 0 r k)
    = X m c (ix3 (batch t) (row t r) k) := by
  blk_simp [iblk]
  rw [V_main_arg0]
  blk_ext [idx t]

theorem read1 (t : Fin cfg0.N) (k : Fin 1024) : (iblk m c 1 t : FVec Ideal S1x1x1024 .f32) (ix3 0 0 k) = Sh m c (ix3 (batch t) 0 k) := by
  blk_simp [iblk]
  rw [V_main_arg1]
  blk_ext [idx t]

theorem read2 (t : Fin cfg0.N) (k : Fin 1024) : (iblk m c 2 t : FVec Ideal S1x1x1024 .f32) (ix3 0 0 k) = Sc m c (ix3 (batch t) 0 k) := by
  blk_simp [iblk]
  rw [V_main_arg2]
  blk_ext [idx t]

theorem read3 (t : Fin cfg0.N) (k : Fin 1024) : (iblk m c 3 t : FVec Ideal S1x1024 .f32) (ix2 0 k) = Nm m c (ix1 k) := by
  have e : (iblk m c 3 t : FVec Ideal S1x1024 .f32) (ix2 0 k) = (V m c main_v13 : FVec Ideal S1x1024 .f32) (ix2 0 k) := by
    blk_ext [iblk, idx t]
  rw [e, (operands m c).2.2.2.1]
  pointwise []

theorem read4 (t : Fin cfg0.N) (k : Fin 1024) (j : Fin 2560) : (iblk m c 4 t : FVec Ideal S1024x2560 .bf16) (ix2 k j) = W m c (ix2 k j) := by
  have e : (iblk m c 4 t : FVec Ideal S1024x2560 .bf16) (ix2 k j) = (V m c main_v14 : FVec Ideal S1024x2560 .bf16) (ix2 k j) := by
    blk_ext [iblk, idx t]
  rw [e, (operands m c).2.2.2.2.2.1]
  rfl

theorem read5 (t : Fin cfg0.N) (l : Fin 512) : (iblk m c 5 t : FVec Ideal S1x512 .f32) (ix2 0 l) = tiled (Qg m c) (ix2 0 l) := by
  have e : (iblk m c 5 t : FVec Ideal S1x512 .f32) (ix2 0 l) = (V m c main_v18 : FVec Ideal S1x512 .f32) (ix2 0 l) := by
    blk_ext [iblk, idx t]
  rw [e, (operands m c).2.1]

theorem read6 (t : Fin cfg0.N) (l : Fin 512) : (iblk m c 6 t : FVec Ideal S1x512 .f32) (ix2 0 l) = tiled (Kg m c) (ix2 0 l) := by
  have e : (iblk m c 6 t : FVec Ideal S1x512 .f32) (ix2 0 l) = (V m c main_v22 : FVec Ideal S1x512 .f32) (ix2 0 l) := by
    blk_ext [iblk, idx t]
  rw [e, (operands m c).2.2.1]

theorem read7 (t : Fin cfg0.N) (l : Fin 256) : (iblk m c 7 t : FVec Ideal S1x256 .f32) (ix2 0 l) = Gn m c (ix1 l) := by
  have e : (iblk m c 7 t : FVec Ideal S1x256 .f32) (ix2 0 l) = (V m c main_v23 : FVec Ideal S1x256 .f32) (ix2 0 l) := by
    blk_ext [iblk, idx t]
  rw [e, (operands m c).2.2.2.2.1]
  pointwise []

theorem read8 (t : Fin cfg0.N) (p l : Fin 512) : (iblk m c 8 t : FVec Ideal S512x512 .bf16) (ix2 p l) = (if (p : ℕ) / 64 = (l : ℕ) / 64 then 1 else 0 : EReal) := by
  have e : (iblk m c 8 t : FVec Ideal S512x512 .bf16) (ix2 p l) = (V m c main_v32 : FVec Ideal S512x512 .bf16) (ix2 p l) := by
    blk_ext [iblk, idx t]
  rw [e, (operands m c).1, ones_at]

theorem read9 (t : Fin cfg0.N) (a : Fin 2) (i : Fin 128) (k : Fin 512) : (iblk m c 9 t : FVec Ideal S2x128x512 .bf16) (ix3 a i k) = pair (flat (Stage.tril (Ws m c))) (ix3 a i k) := by
  have e : (iblk m c 9 t : FVec Ideal S2x128x512 .bf16) (ix3 a i k) = (V m c main_v9 : FVec Ideal S2x128x512 .bf16) (ix3 a i k) := by
    blk_ext [iblk, idx t]
  rw [e, (operands m c).2.2.2.2.2.2.1]

theorem read10 (t : Fin cfg0.N) (i : Fin 128) (l : Fin 256) : (iblk m c 10 t : FVec Ideal S128x256 .f32) (ix2 i l) = bias (Bs m c) (ix2 i l) := by
  have e : (iblk m c 10 t : FVec Ideal S128x256 .f32) (ix2 i l) = (V m c main_v12 : FVec Ideal S128x256 .f32) (ix2 i l) := by
    blk_ext [iblk, idx t]
  rw [e, (operands m c).2.2.2.2.2.2.2]

/-- A grid point's projections are the reference's. -/
theorem z_eq (t : Fin cfg0.N) (r : Fin 512) (j : Fin 2560) :
    Block.z (iblk m c 0 t) (iblk m c 1 t) (iblk m c 2 t) (iblk m c 3 t) (iblk m c 4 t) r j = Z m c (ix3 (batch t) (row t r) j) := by
  refine Eq.trans ?_ (Stage.z_at (X m c) (Sh m c) (Sc m c) (Nm m c) (W m c) (batch t) (row t r) j).symm
  simp only [Block.z, read0, read1, read2, read3, read4]

/-- The arguments the precondition speaks of are real. -/
structure Reals : Prop where
  x : ∀ i, Real' (X m c i)
  sh : ∀ i, Real' (Sh m c i)
  sc : ∀ i, Real' (Sc m c i)
  nm : ∀ i, Real' (Nm m c i)
  w : ∀ i, Real' (W m c i)
  gn : ∀ i, Real' (Gn m c i)
  ws : ∀ i, Real' (Ws m c i)

variable {m c}

theorem Reals.z (h : Reals m c) (b : Fin 4) (r : Fin 4096) (j : Fin 2560) : Real' (Z m c (ix3 b r j)) := by
  rw [show Z m c (ix3 b r j) = _ from Stage.z_at (X m c) (Sh m c) (Sc m c) (Nm m c) (W m c) b r j]
  exact proj_real (fun _ => h.x _) (fun _ => h.nm _) (fun _ => h.sc _) (fun _ => h.sh _) (fun _ _ => h.w _) j

theorem Reals.tril (h : Reals m c) (g : Fin 4) (i j : Fin 128) : Real' (Stage.tril (Ws m c) (ix3 g i j)) := by
  obtain ⟨b, e⟩ := Stage.tril_at (Ws m c) g i j
  rw [e, Scalar.select]
  split
  · exact h.ws _
  · exact ⟨0, rfl⟩

/-- An index by its coordinates. -/
theorem eq_of {n0 n1 n2 : ℕ} {y : (⟨3, ![n0, n1, n2]⟩ : Shape).Idx} {a : Fin n0} {b : Fin n1} {d : Fin n2}
    (h0 : (y 0 : ℕ) = a) (h1 : (y 1 : ℕ) = b) (h2 : (y 2 : ℕ) = d) : y = ix3 a b d := by
  rw [eq_ix3 y]
  exact congr (congr (congrArg ix3 (Fin.ext h0)) (Fin.ext h1)) (Fin.ext h2)

/-- A grid point's queries are the reference's. -/
theorem query_eq (h : Reals m c) (t : Fin cfg0.N) (r l : Fin 512) :
    headK (fun l => Block.z (iblk m c 0 t) (iblk m c 1 t) (iblk m c 2 t) (iblk m c 3 t) (iblk m c 4 t) r ⟨l, by omega⟩)
      (fun l => (iblk m c 5 t : FVec Ideal S1x512 .f32) (ix2 0 l)) (fun p l => (iblk m c 8 t : FVec Ideal S512x512 .bf16) (ix2 p l)) l
      * Ideal.ofBits .f32 0x3E000000#32 = Stage.query (Z m c) (Qg m c) (ix3 (batch t) (row t r) l) := by
  have hl : l = lane ⟨(l : ℕ) / 64, by omega⟩ ⟨(l : ℕ) % 64, by omega⟩ := Fin.ext (by dsimp only [lane]; omega)
  rw [hl, Stage.query_at]
  simp only [z_eq]
  exact congrArg (· * _) (head_agree (g' := fun e => Qg m c (ix1 e)) (fun l => h.z _ _ _) (read8 m c t) (fun g e => (read5 m c t _).trans (tiled_at _ g e)) _ _)

/-- A grid point's keys are the reference's. -/
theorem key_eq (h : Reals m c) (t : Fin cfg0.N) (r l : Fin 512) :
    headK (fun l => Block.z (iblk m c 0 t) (iblk m c 1 t) (iblk m c 2 t) (iblk m c 3 t) (iblk m c 4 t) r ⟨512 + l, by omega⟩)
      (fun l => (iblk m c 6 t : FVec Ideal S1x512 .f32) (ix2 0 l)) (fun p l => (iblk m c 8 t : FVec Ideal S512x512 .bf16) (ix2 p l)) l
      = Stage.key (Z m c) (Kg m c) (ix3 (batch t) (row t r) l) := by
  have hl : l = lane ⟨(l : ℕ) / 64, by omega⟩ ⟨(l : ℕ) % 64, by omega⟩ := Fin.ext (by dsimp only [lane]; omega)
  rw [hl, Stage.key_at]
  simp only [z_eq]
  exact head_agree (g' := fun e => Kg m c (ix1 e)) (fun l => h.z _ _ _) (read8 m c t) (fun g e => (read6 m c t _).trans (tiled_at _ g e)) _ _

variable (m c) in
/-- A grid point's normalised gate is the reference's. -/
theorem gate_eq (t : Fin cfg0.N) (r : Fin 512) (l : Fin 256) :
    unit (fun l => Block.z (iblk m c 0 t) (iblk m c 1 t) (iblk m c 2 t) (iblk m c 3 t) (iblk m c 4 t) r ⟨1792 + l, by omega⟩)
      (fun l => (iblk m c 7 t : FVec Ideal S1x256 .f32) (ix2 0 l)) l = Stage.gate (Z m c) (Gn m c) (ix3 (batch t) (row t r) l) := by
  simp only [z_eq, read7, Stage.gate_at]

/-- A chunk's product of the gate, from its two pieces of the table, is the reference's. -/
theorem mix_chunk (h : Reals m c) (b : Fin 4) (n : Fin 32) (i : Fin 128) (g : Fin 4) (e : Fin 64) {w0 w1 : Fin 512 → EReal}
    {v : Fin 128 → Fin 256 → EReal} {x y : EReal}
    (h0 : ∀ d, w0 d = pair (flat (Stage.tril (Ws m c))) (ix3 0 i d)) (h1 : ∀ d, w1 d = pair (flat (Stage.tril (Ws m c))) (ix3 1 i d))
    (hv : ∀ j l, v j l = Stage.gate (Z m c) (Gn m c) (ix3 b ⟨n * 128 + j, by omega⟩ l))
    (hx : x = Z m c (ix3 b ⟨n * 128 + i, by omega⟩ ⟨1536 + (g * 64 + e), by omega⟩)) (hy : y = bias (Bs m c) (ix2 i ⟨g * 64 + e, by omega⟩)) :
    x * mixK w0 w1 v y ⟨g * 64 + e, by omega⟩
      = Stage.mix (Stage.half (Z m c)) (Stage.gate (Z m c) (Gn m c)) (Stage.tril (Ws m c)) (Bs m c) (ix3 b ⟨n * 128 + i, by omega⟩ ⟨g * 64 + e, by omega⟩) := by
  rw [Stage.mix_at, Stage.half_at, hx, hy, bias_at]
  have hl : (g * 64 + e : ℕ) / 64 = g := by omega
  have hw : ∀ g j, Real' (Stage.tril (Ws m c) (ix3 g i j)) := fun g j => h.tril g i j
  have hd : ∀ j l, Real' (v j l) := fun j l => by
    rw [hv, Stage.gate_at]
    exact unit_real (fun l => h.z _ _ _) (fun l => h.gn _) _
  have hg : ∀ g j, w0 (finProdFinEquiv (g, j) : Fin (4 * 128)) = Stage.tril (Ws m c) (ix3 g i j) := fun g j => by
    rw [h0, hi_at, flat_at]
  have hs : ∀ d, w1 d = w0 d - w0 d := fun d => by rw [h0, h1, lo_at, hi_at]
  rw [mix_agree (w := fun g j => Stage.tril (Ws m c) (ix3 g i j)) g hl hw hg hs fun j => hd j _]
  simp only [hv]

/-- A grid point's chunk of the gate's products is the reference's. -/
theorem mix_eq (h : Reals m c) (t : Fin cfg0.N) (k : Fin 4) (i : Fin 128) (g : Fin 4) (e : Fin 64) (n : Fin 32)
    (hr : ∀ j : Fin 128, row t ⟨k * 128 + j, by omega⟩ = ⟨n * 128 + j, by omega⟩) :
    Block.z (iblk m c 0 t) (iblk m c 1 t) (iblk m c 2 t) (iblk m c 3 t) (iblk m c 4 t) ⟨k * 128 + i, by omega⟩ ⟨1536 + (g * 64 + e), by omega⟩
      * mixK (fun d => (iblk m c 9 t : FVec Ideal S2x128x512 .bf16) (ix3 0 i d)) (fun d => (iblk m c 9 t : FVec Ideal S2x128x512 .bf16) (ix3 1 i d))
        (fun j l => unit (fun l => Block.z (iblk m c 0 t) (iblk m c 1 t) (iblk m c 2 t) (iblk m c 3 t) (iblk m c 4 t) ⟨k * 128 + j, by omega⟩ ⟨1792 + l, by omega⟩)
          (fun l => (iblk m c 7 t : FVec Ideal S1x256 .f32) (ix2 0 l)) l)
        ((iblk m c 10 t : FVec Ideal S128x256 .f32) (ix2 i ⟨g * 64 + e, by omega⟩)) ⟨g * 64 + e, by omega⟩
      = Stage.mix (Stage.half (Z m c)) (Stage.gate (Z m c) (Gn m c)) (Stage.tril (Ws m c)) (Bs m c)
        (ix3 (batch t) ⟨n * 128 + i, by omega⟩ ⟨g * 64 + e, by omega⟩) :=
  mix_chunk h (batch t) n i g e (fun d => read9 m c t 0 i d) (fun d => read9 m c t 1 i d)
    (fun j l => (gate_eq m c t _ l).trans (congrArg (fun r => Stage.gate (Z m c) (Gn m c) (ix3 (batch t) r l)) (hr j)))
    ((z_eq m c t _ _).trans (congrArg (fun r => Z m c (ix3 (batch t) r _)) (hr i))) (read10 m c t i _)

/-- A grid point's values and the recurrence's rows are the reference's. -/
theorem value_eq (t : Fin cfg0.N) (r l : Fin 512) :
    Block.z (iblk m c 0 t) (iblk m c 1 t) (iblk m c 2 t) (iblk m c 3 t) (iblk m c 4 t) r ⟨1024 + l, by omega⟩ = Stage.value (Z m c) (ix3 (batch t) (row t r) l) := by
  rw [z_eq, Stage.value_at]

theorem rec0_eq (t : Fin cfg0.N) (r : Fin 512) (l : Fin 256) :
    Block.z (iblk m c 0 t) (iblk m c 1 t) (iblk m c 2 t) (iblk m c 3 t) (iblk m c 4 t) r ⟨2048 + l, by omega⟩ = Stage.rec0 (Z m c) (ix3 (batch t) (row t r) l) := by
  rw [z_eq, Stage.rec0_at]

theorem rec1_eq (t : Fin cfg0.N) (r : Fin 512) (l : Fin 256) :
    Block.z (iblk m c 0 t) (iblk m c 1 t) (iblk m c 2 t) (iblk m c 3 t) (iblk m c 4 t) r ⟨2304 + l, by omega⟩ = Stage.rec1 (Z m c) (ix3 (batch t) (row t r) l) := by
  rw [z_eq, Stage.rec1_at]

set_option maxHeartbeats 1600000 in
/-- The queries after the run. -/
theorem final11 (h : Reals m c) : (dats m 0 c).arrAt 11 cfg0.N = Stage.query (Z m c) (Qg m c) := by
  refine (dats m 0 c).arrAt_eq_of_covers 11 _ (by decide +kernel) fun t _ y => ?_
  have hy0 : (y 0 : ℕ) < 1 := (y 0).isLt
  blk_simp
  rw [after0_11]
  refine (Block.out11_at _ _ _ _ _ _ _ _ _ _ _ (y 1) (y 2) y rfl rfl).trans ((query_eq h t (y 1) (y 2)).trans (congrArg _ (eq_of ?_ ?_ ?_).symm))
  all_goals
    blk_simp [idx t] <;> first | omega | (dsimp only; omega)

set_option maxHeartbeats 1600000 in
/-- The keys after the run. -/
theorem final12 (h : Reals m c) : (dats m 0 c).arrAt 12 cfg0.N = Stage.key (Z m c) (Kg m c) := by
  refine (dats m 0 c).arrAt_eq_of_covers 12 _ (by decide +kernel) fun t _ y => ?_
  have hy0 : (y 0 : ℕ) < 1 := (y 0).isLt
  blk_simp
  rw [after0_12]
  refine (Block.out12_at _ _ _ _ _ _ _ _ _ _ _ (y 1) (y 2) y rfl rfl).trans ((key_eq h t (y 1) (y 2)).trans (congrArg _ (eq_of ?_ ?_ ?_).symm))
  all_goals
    blk_simp [idx t] <;> first | omega | (dsimp only; omega)

set_option maxHeartbeats 1600000 in
/-- The values after the run. -/
theorem final13 : (dats m 0 c).arrAt 13 cfg0.N = Stage.value (Z m c) := by
  refine (dats m 0 c).arrAt_eq_of_covers 13 _ (by decide +kernel) fun t _ y => ?_
  have hy0 : (y 0 : ℕ) < 1 := (y 0).isLt
  blk_simp
  rw [after0_13]
  refine (Block.out13_at _ _ _ _ _ _ _ _ _ _ _ (y 1) (y 2) y rfl rfl).trans ((value_eq t (y 1) (y 2)).trans (congrArg _ (eq_of ?_ ?_ ?_).symm))
  all_goals
    blk_simp [idx t] <;> first | omega | (dsimp only; omega)

set_option maxHeartbeats 1600000 in
/-- The gate's products after the run. -/
theorem final14 (h : Reals m c) : (dats m 0 c).arrAt 14 cfg0.N = Stage.mix (Stage.half (Z m c)) (Stage.gate (Z m c) (Gn m c)) (Stage.tril (Ws m c)) (Bs m c) := by
  refine (dats m 0 c).arrAt_eq_of_covers 14 _ (by decide +kernel) fun t _ y => ?_
  have hy0 : (y 0 : ℕ) < 1 := (y 0).isLt
  have hy1 : (y 1 : ℕ) < 512 := (y 1).isLt
  have hy : (y 2 : ℕ) < 256 := (y 2).isLt
  blk_simp
  rw [after0_14]
  have ht : (grid0.coords t 1 : ℕ) < 8 := (grid0.coords t 1).isLt
  refine (Block.out14_at _ _ _ _ _ _ _ _ _ _ _ ⟨(y 1 : ℕ) / 128, by omega⟩ ⟨(y 1 : ℕ) % 128, by omega⟩ ⟨(y 2 : ℕ) / 64 * 64 + (y 2 : ℕ) % 64, by omega⟩ y
      (by dsimp only; omega) (by dsimp only; omega)).trans
    ((mix_eq h t ⟨(y 1 : ℕ) / 128, by omega⟩ ⟨(y 1 : ℕ) % 128, by omega⟩ ⟨(y 2 : ℕ) / 64, by omega⟩ ⟨(y 2 : ℕ) % 64, by omega⟩
      ⟨(grid0.coords t 1 : ℕ) * 4 + (y 1 : ℕ) / 128, by omega⟩ fun j => Fin.ext (by dsimp only [row]; omega)).trans (congrArg _ (eq_of ?_ ?_ ?_).symm))
  all_goals
    blk_simp [idx t] <;> first | omega | (dsimp only; omega)

set_option maxHeartbeats 1600000 in
/-- The gate's normalised rows after the run. -/
theorem final15 : (dats m 0 c).arrAt 15 cfg0.N = Stage.gate (Z m c) (Gn m c) := by
  refine (dats m 0 c).arrAt_eq_of_covers 15 _ (by decide +kernel) fun t _ y => ?_
  have hy0 : (y 0 : ℕ) < 1 := (y 0).isLt
  blk_simp
  rw [after0_15]
  refine (Block.out15_at _ _ _ _ _ _ _ _ _ _ _ (y 1) (y 2) y rfl rfl).trans ((gate_eq m c t (y 1) (y 2)).trans (congrArg _ (eq_of ?_ ?_ ?_).symm))
  all_goals
    blk_simp [idx t] <;> first | omega | (dsimp only; omega)

set_option maxHeartbeats 1600000 in
/-- The recurrence's rows after the run. -/
theorem final16 : (dats m 0 c).arrAt 16 cfg0.N = Stage.rec0 (Z m c) := by
  refine (dats m 0 c).arrAt_eq_of_covers 16 _ (by decide +kernel) fun t _ y => ?_
  have hy0 : (y 0 : ℕ) < 1 := (y 0).isLt
  blk_simp
  rw [after0_16]
  refine (Block.out16_at _ _ _ _ _ _ _ _ _ _ _ (y 1) (y 2) y rfl rfl).trans ((rec0_eq t (y 1) (y 2)).trans (congrArg _ (eq_of ?_ ?_ ?_).symm))
  all_goals
    blk_simp [idx t] <;> first | omega | (dsimp only; omega)

set_option maxHeartbeats 1600000 in
/-- The recurrence's gate after the run. -/
theorem final17 : (dats m 0 c).arrAt 17 cfg0.N = Stage.rec1 (Z m c) := by
  refine (dats m 0 c).arrAt_eq_of_covers 17 _ (by decide +kernel) fun t _ y => ?_
  have hy0 : (y 0 : ℕ) < 1 := (y 0).isLt
  blk_simp
  rw [after0_17]
  refine (Block.out17_at _ _ _ _ _ _ _ _ _ _ _ (y 1) (y 2) y rfl rfl).trans ((rec1_eq t (y 1) (y 2)).trans (congrArg _ (eq_of ?_ ?_ ?_).symm))
  all_goals
    blk_simp [idx t] <;> first | omega | (dsimp only; omega)

end Cert.Kernel2Ideal.Bridge

end
-- ==== Proof.Inproj.lean ====
module

public import proofs.«01_k».proof.Defs
public import proofs.«01_k».proof.Proof.Finite2
public import proofs.«01_k».proof.Proof.Bridge2
public import proofs.«01_k».proof.Proof.Gen.Kernel2.Frame
public import Idealize.ShloMosaic.Lib.Quiescent

@[expose] public section

/-! The claims of the projections. -/

noncomputable section

open Idealize.ShloMosaic Idealize.ShloMosaic.TcCoe Idealize.SL.Sem

namespace Cert.Inproj

instance : Cert.Kernel2Ideal.Facts := Cert.Kernel2Ideal.Gen.facts
instance : Cert.Reference2Ideal.Facts := Cert.Reference2Ideal.Gen.facts

/-- The kernel's frame. -/
theorem frame_kernel : Cert.quiescent_Kernel2 := fun m g _ => Cert.Kernel2.Gen.frame m g

/-- The ideal kernel's frame. -/
theorem frame_ideal : Cert.quiescent_Kernel2Ideal := fun m g _ => Cert.Kernel2Ideal.Gen.frame m g

/-- The ideal kernel's frame under the precondition. -/
theorem frame_ideal_finite : Cert.quiescent_Kernel2Ideal_pre_finite_inproj := fun m g _ => Cert.Kernel2Ideal.Gen.frame m g

/-- The reference's frame. -/
theorem frame_reference : Cert.quiescent_Reference2Ideal := fun m g _ =>
  (θ_run _ _ _).mono (fun r h => ⟨fun c => (h c).2.2.2.2.2.2.2, sem_eq_zero_of_no_sems (by decide) r.2⟩) (Cert.Reference2Ideal.Value.run m g)

/-- The reference's frame under the precondition. -/
theorem frame_reference_finite : Cert.quiescent_Reference2Ideal_pre_finite_inproj := fun m g _ => frame_reference m g trivial

/-- The ideal kernel is the kernel. -/
theorem preserves : Cert.preserves_Kernel2_Kernel2Ideal := trivial

set_option maxHeartbeats 3200000 in
open Cert.Reference2Ideal in
/-- Kernel and reference end with equal results. -/
theorem algebraic : Cert.algebraic_Kernel2Ideal_Reference2Ideal_pre_finite_inproj := by
  intro m g m' g' hpre hagree
  refine ⟨_, _, _, _, _, _, _, Cert.Kernel2Ideal.Value.run_blocks m g, (θ_run _ _ _).mono (fun r h c => ?_) (Cert.Reference2Ideal.Value.run m' g')⟩
  obtain ⟨a0, a1, a2, a3, a4, a5, a6, a7, a8, a9⟩ := hagree c
  obtain ⟨hx, hsh, hsc, hnm, hw, hgn, hws⟩ := Cert.Pre_finite_inproj.reals (hpre c)
  have H : Cert.Kernel2Ideal.Bridge.Reals m c := ⟨hx, hsh, hsc, hnm, hw, hgn, hws⟩
  have hz : Stage.zOf m' c = Cert.Kernel2Ideal.Bridge.Z m c := by
    rw [Stage.zOf, a0, a1, a2, a3, a4]
  obtain ⟨h0, h1, h2, h3, h4, h5, h6, ht⟩ := h c
  refine ⟨h0.trans ((Stage.res0 m' c).trans ?_), h1.trans ((Stage.res1 m' c).trans ?_), h2.trans ?_, h3.trans ((Stage.res3 m' c).trans ?_),
    h4.trans ((Stage.res4 m' c).trans ?_), h5.trans ?_, h6.trans ?_, ht⟩
  · rw [hz, a5]
    exact (Cert.Kernel2Ideal.Bridge.final11 H).symm
  · rw [hz, a6]
    exact (Cert.Kernel2Ideal.Bridge.final12 H).symm
  · exact (congrArg Stage.value hz).trans Cert.Kernel2Ideal.Bridge.final13.symm
  · rw [hz, a7, a8, a9]
    exact (Cert.Kernel2Ideal.Bridge.final14 H).symm
  · rw [hz, a7]
    exact Cert.Kernel2Ideal.Bridge.final15.symm
  · exact (congrArg Stage.rec0 hz).trans Cert.Kernel2Ideal.Bridge.final16.symm
  · exact (congrArg Stage.rec1 hz).trans Cert.Kernel2Ideal.Bridge.final17.symm

end Cert.Inproj

end
-- ==== Proof.Finite3.lean ====
module

public import proofs.«01_k».proof.Pre_finite_outproj
public import proofs.«01_k».proof.Proof.Finite

@[expose] public section

/-! What the output projection's precondition says: the branches' normalisers are real. -/

noncomputable section

open Idealize.ShloMosaic

namespace Cert.Pre_finite_outproj

open Cert.Pre_finite (real_of_lt)

instance facts : Facts where
  bcast_S_S4x4096x512 := by decide
  reducesTo_S4x4096x512_S_d0_1_2 := by decide
  h_S_ := by decide

theorem reals {o0 o1 o2 l0 l1 l2 : FVec Ideal S4x4096x512 .f32} {yb yc : FVec Ideal S4x4096x256 .f32} {x : FVec Ideal S4x4096x1024 .f32}
    {g1 sh sc : FVec Ideal S4x1x1024 .f32} {og : FVec Ideal S1024 .f32} {w : FVec Ideal S1024x1024 .f32} {nf : FVec Ideal S1024 .f32}
    (h : fn (F := Ideal) o0 o1 o2 l0 l1 l2 yb yc x g1 sh sc og w nf = fun _ => 1#1) :
    (∀ i, ∃ r : ℝ, l0 i = r) ∧ (∀ i, ∃ r : ℝ, l1 i = r) ∧ (∀ i, ∃ r : ℝ, l2 i = r) := by
  haveI : Subsingleton S_.Idx := ⟨fun a b => funext fun i => i.elim0⟩
  have e := congrFun h (fun i => i.elim0)
  unfold fn at e
  obtain ⟨e, e2⟩ := IntOp.andi_eq_one.1 e
  obtain ⟨e0, e1⟩ := IntOp.andi_eq_one.1 e
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i)⟩

end Cert.Pre_finite_outproj

end
-- ==== Proof.Merge.lean ====
module

public import proofs.«01_k».proof.Proof.Proj
public import proofs.«01_k».proof.Proof.Softmax

/-! The arithmetic of the output projection over the extended reals: the merge of the three branches, as the kernel
    computes it and as the reference does, the joined row and its projection; and reductions of rank-4 arrays along their
    first axis. -/

@[expose] public section

noncomputable section

open Idealize.ShloMosaic

namespace Cert.Merge

open Cert.Proj

/-! ## Reductions along the first axis of four -/

variable {n0 n1 n2 n3 : ℕ}

/-- The dropped index with its first coordinate put back. -/
theorem lift_first (h : (⟨4, ![n0, n1, n2, n3]⟩ : Shape).Reduces [0] ⟨3, ![n1, n2, n3]⟩)
    (b : Fin n1) (c : Fin n2) (d : Fin n3) (k : Fin n0) : h.lift (ix3 b c d) k = ix4 k b c d := by
  funext x
  apply Fin.ext
  match x with
  | ⟨0, _⟩ => rfl
  | ⟨1, _⟩ => rfl
  | ⟨2, _⟩ => rfl
  | ⟨3, _⟩ => rfl

/-- The shape four axes leave when their first is summed away. -/
theorem reduces_first : (⟨4, ![n0, n1, n2, n3]⟩ : Shape).Reduces [0] ⟨3, ![n1, n2, n3]⟩ := by
  refine ⟨rfl, Nat.succ_pos _, ?_⟩
  intro b
  match b with
  | ⟨0, _⟩ => rfl
  | ⟨1, _⟩ => rfl
  | ⟨2, _⟩ => rfl

/-- A host sum over the first of four axes. -/
theorem sum_first (h : (⟨4, ![n0, n1, n2, n3]⟩ : Shape).ReducesTo [0] ⟨3, ![n1, n2, n3]⟩)
    (x : (⟨4, ![n0, n1, n2, n3]⟩ : Shape).Idx → EReal) (init : EReal) (b : Fin n1) (c : Fin n2) (d : Fin n3) :
    Ideal.hostReduceAdd h x init (ix3 b c d) = init + ∑ k : Fin n0, x (ix4 k b c d) := by
  rw [Ideal.hostReduceAdd_single h reduces_first]
  exact congrArg (init + ·) (Finset.sum_congr rfl fun k _ => congrArg x (lift_first _ b c d k))

/-- A host maximum over the first of four axes. -/
theorem max_first {u : Shape} (h : (⟨4, ![n0, n1, n2, n3]⟩ : Shape).ReducesTo [0] ⟨3, ![n1, n2, n3]⟩)
    (x : FVec Ideal ⟨4, ![n0, n1, n2, n3]⟩ .f32) (init : FVec Ideal u .f32) (hu : 0 < u.numel) (b : Fin n1) (c : Fin n2) (d : Fin n3) :
    Host.reduce FloatOps.maximumf x init h hu (ix3 b c d)
      = (Finset.univ : Finset (Fin n0)).fold max (init (Shape.Idx.first hu)) fun k => x (ix4 k b c d) := by
  rw [Host.reduce_eq_fold_single _ x init h reduces_first hu]
  exact Finset.fold_congr fun k _ => congrArg x (lift_first _ b c d k)

/-! ## The merge -/

/-- The largest of three normalisers. -/
def top (l : Fin 3 → EReal) : EReal := max (max (l 0) (l 1)) (l 2)

/-- The branches' mean as the kernel computes it, the weights divided out last. -/
def mergeK (l o : Fin 3 → EReal) : EReal :=
  Ideal.div (Ideal.exp (l 0 - top l) * o 0 + Ideal.exp (l 1 - top l) * o 1 + Ideal.exp (l 2 - top l) * o 2)
    (Ideal.exp (l 0 - top l) + Ideal.exp (l 1 - top l) + Ideal.exp (l 2 - top l))

/-- The branches' mean as the reference computes it. -/
def mergeR (l o : Fin 3 → EReal) : EReal :=
  ∑ i, Ideal.div (Ideal.exp (l i - top l)) (∑ j, Ideal.exp (l j - top l)) * o i

theorem fold_top (l : Fin 3 → EReal) : (Finset.univ : Finset (Fin 3)).fold max ⊥ l = top l := by
  refine le_antisymm ?_ ?_
  · rw [Finset.fold_max_le]
    refine ⟨bot_le, fun i _ => ?_⟩
    unfold top
    match i with
    | ⟨0, _⟩ => exact (le_max_left _ _).trans (le_max_left _ _)
    | ⟨1, _⟩ => exact (le_max_right _ _).trans (le_max_left _ _)
    | ⟨2, _⟩ => exact le_max_right _ _
  · have h : ∀ i, l i ≤ (Finset.univ : Finset (Fin 3)).fold max ⊥ l := fun i => by
      rw [Finset.le_fold_max]; exact Or.inr ⟨i, Finset.mem_univ i, le_rfl⟩
    exact max_le (max_le (h 0) (h 1)) (h 2)

/-- The two ways to merge agree on real normalisers. -/
theorem merge_agree {l : Fin 3 → EReal} (hl : ∀ i, Real' (l i)) (o : Fin 3 → EReal) : mergeK l o = mergeR l o := by
  choose a ha using hl
  have ht : top l = ((max (max (a 0) (a 1)) (a 2) : ℝ) : EReal) := by
    have hm : ∀ x y : ℝ, max (x : EReal) (y : EReal) = ((max x y : ℝ) : EReal) := fun x y => (EReal.coe_strictMono.monotone.map_max).symm
    unfold top
    rw [ha, ha, ha, hm, hm]
  generalize max (max (a 0) (a 1)) (a 2) = t at ht
  have he : ∀ i, Ideal.exp (l i - top l) = ((Real.exp (a i - t) : ℝ) : EReal) := fun i => by
    rw [ha, ht, ← EReal.coe_sub, Ideal.exp_coe]
  obtain ⟨s, hs, hS⟩ : ∃ s : ℝ, 0 < s ∧ ∑ j, Ideal.exp (l j - top l) = s :=
    ⟨∑ j, Real.exp (a j - t), Finset.sum_pos (fun _ _ => Real.exp_pos _) Finset.univ_nonempty, by simp only [he]; exact (coe_sum _ _).symm⟩
  have hn : (Ideal.exp (l 0 - top l) * o 0 + Ideal.exp (l 1 - top l) * o 1 + Ideal.exp (l 2 - top l) * o 2)
      = ∑ i, Ideal.exp (l i - top l) * o i :=
    (Fin.sum_univ_three fun i => Ideal.exp (l i - top l) * o i).symm
  have hd : Ideal.exp (l 0 - top l) + Ideal.exp (l 1 - top l) + Ideal.exp (l 2 - top l) = s :=
    (Fin.sum_univ_three fun i => Ideal.exp (l i - top l)).symm.trans hS
  unfold mergeK mergeR
  rw [hn, hd, hS, Ideal.div_coe hs.ne', Softmax.sum_mul_real _ _ (by positivity)]
  refine Finset.sum_congr rfl fun i _ => ?_
  rw [Ideal.div_coe hs.ne', mul_right_comm]

/-! ## The joined row -/

/-- A normalised row of 512. -/
def wide (y : Fin 512 → EReal) (g : Fin 512 → EReal) (l : Fin 512) : EReal :=
  y l * rms (Ideal.ofBits .f32 0x44000000#32) y * g l

/-- Three rows side by side. -/
def joined (p : Fin 512 → EReal) (q r : Fin 256 → EReal) (k : Fin 1024) : EReal :=
  if h : (k : ℕ) < 512 then p ⟨k, h⟩ else if h : (k : ℕ) < 768 then q ⟨k - 512, by omega⟩ else r ⟨k - 768, by omega⟩

/-- The joined row, its last two pieces told apart within what follows the first. -/
theorem joined_of (p : Fin 512 → EReal) (q r : Fin 256 → EReal) (k : Fin 1024) :
    (if h : (k : ℕ) < 512 then p ⟨k, h⟩ else if h : (k : ℕ) - 512 < 256 then q ⟨k - 512, h⟩ else r ⟨k - 512 - 256, by omega⟩) = joined p q r k := by
  unfold joined
  split
  · rfl
  · split
    · rw [dif_pos (by omega)]
    · rw [dif_neg (by omega)]
      exact congrArg r (Fin.ext (by dsimp only; omega))

/-- The mixers' rows, each normalised, side by side. -/
def mixed (ya : Fin 512 → EReal) (yb yc : Fin 256 → EReal) (g : Fin 1024 → EReal) : Fin 1024 → EReal :=
  joined (wide ya fun l => g ⟨l, by omega⟩) (unit yb fun l => g ⟨512 + l, by omega⟩) (unit yc fun l => g ⟨768 + l, by omega⟩)

/-- The residual row after the gated projection. -/
def resid (x g1 mix : Fin 1024 → EReal) (w : Fin 1024 → Fin 1024 → EReal) (j : Fin 1024) : EReal :=
  x j + g1 j * ∑ k, mix k * w k j

end Cert.Merge

end
-- ==== Proof.Block3.lean ====
module

public import proofs.«01_k».proof.Proof.Gen.Kernel3Ideal.Frame
public import proofs.«01_k».proof.Proof.Merge

/-! What a grid point of the output projection writes back, at an index. -/

@[expose] public section

set_option maxRecDepth 16384

noncomputable section

open Idealize.ShloMosaic Idealize.ShloMosaic.TcCoe Idealize.SL.Sem

namespace Cert.Kernel3Ideal.Block

open Cert.Kernel3Ideal Cert.Kernel3Ideal.Gen Cert.Proj Cert.Merge

variable (x0 x1 x2 x3 x4 x5 : Vec Ideal S1x512x512 .f32) (x6 x7 : Vec Ideal S1x512x256 .f32) (x8 : Vec Ideal S1x512x1024 .f32)
variable (x9 x10 x11 : Vec Ideal S1x1x1024 .f32) (x12 : Vec Ideal S1x1024 .f32) (x13 : Vec Ideal S1024x1024 .bf16) (x14 : Vec Ideal S1x1024 .f32)

/-- A block's row, its branches merged. -/
def ya (r l : Fin 512) : EReal :=
  mergeK ![x3 (ix3 0 r l), x4 (ix3 0 r l), x5 (ix3 0 r l)] ![x0 (ix3 0 r l), x1 (ix3 0 r l), x2 (ix3 0 r l)]

/-- A block's joined row. -/
def mix (r : Fin 512) : Fin 1024 → EReal :=
  mixed (ya x0 x1 x2 x3 x4 x5 r) (fun l => x6 (ix3 0 r l)) (fun l => x7 (ix3 0 r l)) fun k => x12 (ix2 0 k)

/-- A block's residual row. -/
def row (r : Fin 512) : Fin 1024 → EReal :=
  resid (fun k => x8 (ix3 0 r k)) (fun k => x9 (ix3 0 0 k)) (mix x0 x1 x2 x3 x4 x5 x6 x7 x12 r) fun k j => x13 (ix2 k j)

set_option maxHeartbeats 4000000 in
theorem pay2_at (r l : Fin 512) : k0_pay2 (F := Ideal) x3 x4 x5 x0 x1 x2 (ix2 r l) = ya x0 x1 x2 x3 x4 x5 r l := by
  unfold k0_pay2
  pointwise [ya, mergeK, top]

/-- The joined rows as the kernel computes them, `p` being the merged rows. -/
def norm512 (p : FVec Ideal S512x512 .f32) (g : FVec Ideal S1x1024 .f32) : FVec Ideal S512x512 .f32 :=
  mulf (mulf p (broadcastTo S512x512 (rsqrt (addf (divf (shapeCast S512x1 (multiReduction .add [1] S512 (mulf p p) 0x00000000#32 reduces_S512x512_S512 (.inl rfl) rfl) shapeCasts_S512_S512x1)
    (broadcast S512x1 (Scalar.ofBits .f32 0x44000000#32))) (broadcast S512x1 (Scalar.ofBits .f32 0x358637BD#32)))) broadcasts_S512x1_S512x512))
    (broadcastTo S512x512 (extractStridedSlice S1x512 ![0, 0] g slices_S1x1024_o0_0_S1x512) broadcasts_S1x512_S512x512)

/-- A mixer's rows of 256 with the gains `g`. -/
def norm256 (y : Vec Ideal S1x512x256 .f32) (g : FVec Ideal S1x256 .f32) : FVec Ideal S512x256 .f32 :=
  mulf (mulf (shapeCast S512x256 y shapeCasts_S1x512x256_S512x256)
    (broadcastTo S512x256 (rsqrt (addf (divf (shapeCast S512x1 (multiReduction .add [1] S512 (mulf (shapeCast S512x256 y shapeCasts_S1x512x256_S512x256 : FVec Ideal S512x256 .f32) (shapeCast S512x256 y shapeCasts_S1x512x256_S512x256)) 0x00000000#32 reduces_S512x256_S512 (.inl rfl) rfl) shapeCasts_S512_S512x1)
    (broadcast S512x1 (Scalar.ofBits .f32 0x43800000#32))) (broadcast S512x1 (Scalar.ofBits .f32 0x358637BD#32)))) broadcasts_S512x1_S512x256))
    (broadcastTo S512x256 g broadcasts_S1x256_S512x256)

/-- Three pieces side by side. -/
def cat (p : FVec Ideal S512x512 .f32) (q s : FVec Ideal S512x256 .f32) : FVec Ideal S512x1024 .f32 :=
  concatenate S512x1024 1 [⟨S512x512, p⟩, ⟨S512x256, q⟩, ⟨S512x256, s⟩] concatenates_S512x512_S512x256_S512x256_S512x1024_d1

theorem pay5_eq : k0_pay5 (F := Ideal) (k0_pay2 x3 x4 x5 x0 x1 x2) (k0_pay3 x12) (k0_pay4 x3 x4 x5 x0 x1 x2) (Scalar.ofBits .f32 0x358637BD#32) x6 x7
    = cat (norm512 (k0_pay2 x3 x4 x5 x0 x1 x2) (k0_pay3 x12)) (norm256 x6 (extractStridedSlice S1x256 ![0, 512] (k0_pay3 x12) slices_S1x1024_o0_512_S1x256))
      (norm256 x7 (extractStridedSlice S1x256 ![0, 768] (k0_pay3 x12) slices_S1x1024_o0_768_S1x256)) := rfl

set_option maxHeartbeats 4000000 in
theorem norm512_at (p : FVec Ideal S512x512 .f32) (g : FVec Ideal S1x1024 .f32) (r l : Fin 512) :
    norm512 p g (ix2 r l) = wide (fun l => p (ix2 r l)) (fun l => g (ix2 0 ⟨l, by omega⟩)) l := by
  unfold norm512
  pointwise [wide, rms]

set_option maxHeartbeats 4000000 in
theorem norm256_at (y : Vec Ideal S1x512x256 .f32) (g : FVec Ideal S1x256 .f32) (r : Fin 512) (l : Fin 256) :
    norm256 y g (ix2 r l) = unit (fun l => y (ix3 0 r l)) (fun l => g (ix2 0 l)) l := by
  unfold norm256
  pointwise [unit, rms]

theorem cat_at (p : FVec Ideal S512x512 .f32) (q s : FVec Ideal S512x256 .f32) (r : Fin 512) (k : Fin 1024) :
    cat p q s (ix2 r k) = joined (fun l => p (ix2 r l)) (fun l => q (ix2 r l)) (fun l => s (ix2 r l)) k := by
  pointwise [cat]
  exact joined_of (fun l => p (ix2 r l)) (fun l => q (ix2 r l)) (fun l => s (ix2 r l)) k

theorem gain_at (k : Fin 1024) : k0_pay3 (F := Ideal) x12 (ix2 0 k) = x12 (ix2 0 k) := by pointwise [k0_pay3]

theorem gain512 (l : Fin 256) : extractStridedSlice S1x256 ![0, 512] (k0_pay3 (F := Ideal) x12) slices_S1x1024_o0_512_S1x256 (ix2 0 l) = x12 (ix2 0 ⟨512 + l, by omega⟩) := by
  pointwise [k0_pay3]

theorem gain768 (l : Fin 256) : extractStridedSlice S1x256 ![0, 768] (k0_pay3 (F := Ideal) x12) slices_S1x1024_o0_768_S1x256 (ix2 0 l) = x12 (ix2 0 ⟨768 + l, by omega⟩) := by
  pointwise [k0_pay3]

theorem pay5_at (r : Fin 512) (k : Fin 1024) :
    k0_pay5 (F := Ideal) (k0_pay2 x3 x4 x5 x0 x1 x2) (k0_pay3 x12) (k0_pay4 x3 x4 x5 x0 x1 x2) (Scalar.ofBits .f32 0x358637BD#32) x6 x7 (ix2 r k)
      = mix x0 x1 x2 x3 x4 x5 x6 x7 x12 r k := by
  rw [pay5_eq, cat_at]
  simp only [norm512_at, norm256_at, pay2_at, gain_at, gain512, gain768, mix, mixed]

set_option maxHeartbeats 4000000 in
theorem pay7_at (M : FVec Ideal S512x1024 .f32) (r : Fin 512) (j : Fin 1024) : k0_pay7 (F := Ideal) M (k0_pay6 x8) x9 x13 (ix2 r j)
    = resid (fun k => x8 (ix3 0 r k)) (fun k => x9 (ix3 0 0 k)) (fun k => M (ix2 r k)) (fun k j => x13 (ix2 k j)) j := by
  unfold k0_pay7 k0_pay6
  pointwise [resid]

/-- The rows normalised, scaled and shifted, from the residual rows. -/
def normed (R : FVec Ideal S512x1024 .f32) : FVec Ideal S512x1024 .bf16 :=
  truncf .bf16 (addf (mulf (mulf (mulf R (broadcastTo S512x1024 (rsqrt (addf (divf (shapeCast S512x1 (multiReduction .add [1] S512 (mulf R R) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 (shapeCast S1x1024 x14 shapeCasts_S1x1024_S1x1024) broadcasts_S1x1024_S512x1024))
    (broadcastTo S512x1024 (addf (broadcast S1x1024 (Scalar.ofBits .f32 0x3F800000#32)) (shapeCast S1x1024 x11 shapeCasts_S1x1x1024_S1x1024)) broadcasts_S1x1024_S512x1024))
    (broadcastTo S512x1024 (shapeCast S1x1024 x10 shapeCasts_S1x1x1024_S1x1024) broadcasts_S1x1024_S512x1024)) bitsLt_bf16_f32

theorem pay9_eq (M X : FVec Ideal S512x1024 .f32) : k0_pay9 (F := Ideal) M X x9 x13 x14 x11 x10 = normed x10 x11 x14 (k0_pay7 M X x9 x13) := rfl

set_option maxHeartbeats 4000000 in
theorem normed_at (R : FVec Ideal S512x1024 .f32) (r : Fin 512) (j : Fin 1024) : normed x10 x11 x14 R (ix2 r j)
    = hid (fun k => R (ix2 r k)) (fun k => x14 (ix2 0 k)) (fun k => x11 (ix3 0 0 k)) (fun k => x10 (ix3 0 0 k)) j := by
  unfold normed
  pointwise [hid, rms]

/-! ## The results of a grid point -/

theorem ld_a : View.ld x0 r0_0 = x0 := by
  funext y
  pointwise []
  exact congrArg x0 ((eq_ix3 y).trans (congrArg (fun a => ix3 a (y 1) (y 2)) (Subsingleton.elim (α := Fin 1) _ _))).symm
theorem ld_b : View.ld x6 r0_2 = x6 := by
  funext y
  pointwise []
  exact congrArg x6 ((eq_ix3 y).trans (congrArg (fun a => ix3 a (y 1) (y 2)) (Subsingleton.elim (α := Fin 1) _ _))).symm
theorem ld_x : View.ld x8 r0_3 = x8 := by
  funext y
  pointwise []
  exact congrArg x8 ((eq_ix3 y).trans (congrArg (fun a => ix3 a (y 1) (y 2)) (Subsingleton.elim (α := Fin 1) _ _))).symm
theorem ld_g : View.ld x12 r0_1 = x12 := by
  funext y
  pointwise []
  exact congrArg x12 ((eq_ix2 y).trans (congrArg (fun a => ix2 a (y 1)) (Subsingleton.elim (α := Fin 1) _ _))).symm
theorem ld_s : View.ld x9 r0_4 = x9 := by
  funext y
  pointwise []
  exact congrArg x9 ((eq_ix3 y).trans (congrArg₂ (fun a b => ix3 a b (y 2)) (Subsingleton.elim (α := Fin 1) _ _) (Subsingleton.elim (α := Fin 1) _ _))).symm
theorem ld_w : View.ld x13 r0_5 = x13 := by funext y; pointwise []

theorem pay10_at (r : Fin 512) (k : Fin 1024) : k0_pay10 (F := Ideal) x0 x1 x2 x3 x4 x5 x6 x7 x8 x9 x10 x11 x12 x13 x14 (ix2 r k)
    = mix x0 x1 x2 x3 x4 x5 x6 x7 x12 r k := by
  unfold k0_pay10
  rw [ld_a, ld_a, ld_a, ld_a, ld_a, ld_a, ld_b, ld_b, ld_g, pay5_at]

/-- A grid point's residual rows. -/
abbrev rows : FVec Ideal S512x1024 .f32 :=
  k0_pay7 (F := Ideal) (k0_pay10 x0 x1 x2 x3 x4 x5 x6 x7 x8 x9 x10 x11 x12 x13 x14) (k0_pay6 x8) x9 x13

theorem rows_at (r : Fin 512) (j : Fin 1024) : rows x0 x1 x2 x3 x4 x5 x6 x7 x8 x9 x10 x11 x12 x13 x14 (ix2 r j)
    = row x0 x1 x2 x3 x4 x5 x6 x7 x8 x9 x12 x13 r j := by
  unfold rows
  rw [pay7_at]
  simp only [pay10_at, row]

theorem slice15 (M X : FVec Ideal S512x1024 .f32) (a : Fin 1) (r : Fin 512) (j : Fin 1024) : k0_pay8 (F := Ideal) M X x9 x13 (ix3 a r j) = k0_pay7 M X x9 x13 (ix2 r j) := by
  unfold k0_pay8
  generalize k0_pay7 (F := Ideal) M X x9 x13 = R
  pointwise []

theorem slice16 (H : FVec Ideal S512x1024 .bf16) (a : Fin 1) (r : Fin 512) (j : Fin 1024) : k0_pay1 (F := Ideal) H (ix3 a r j) = H (ix2 r j) := by
  pointwise [k0_pay1]

/-- The residual rows. -/
theorem out15_at (r : Fin 512) (j : Fin 1024) (y : S1x512x1024.Idx) (hy1 : (y 1 : ℕ) = r) (hy2 : (y 2 : ℕ) = j) :
    out0_15 (F := Ideal) x0 x1 x2 x3 x4 x5 x6 x7 x8 x9 x10 x11 x12 x13 x14 y = row x0 x1 x2 x3 x4 x5 x6 x7 x8 x9 x12 x13 r j := by
  unfold out0_15 k0_pay11
  canon_tiles x g
  case piece0 =>
    obtain rfl : r = x 1 := by ext; omega
    obtain rfl : j = x 2 := by ext; omega
    rw [ld_x, ld_s, ld_w]
    exact (congrArg _ (eq_ix3 x)).trans ((slice15 x9 x13 _ _ (x 0) (x 1) (x 2)).trans (rows_at x0 x1 x2 x3 x4 x5 x6 x7 x8 x9 x10 x11 x12 x13 x14 (x 1) (x 2)))

/-- The residual rows, normalised, scaled and shifted. -/
theorem out16_at (r : Fin 512) (j : Fin 1024) (y : S1x512x1024.Idx) (hy1 : (y 1 : ℕ) = r) (hy2 : (y 2 : ℕ) = j) :
    out0_16 (F := Ideal) x0 x1 x2 x3 x4 x5 x6 x7 x8 x9 x10 x11 x12 x13 x14 y
      = hid (row x0 x1 x2 x3 x4 x5 x6 x7 x8 x9 x12 x13 r) (fun k => x14 (ix2 0 k)) (fun k => x11 (ix3 0 0 k)) (fun k => x10 (ix3 0 0 k)) j := by
  unfold out0_16 k0_pay11
  canon_tiles x g
  case piece0 =>
    obtain rfl : r = x 1 := by ext; omega
    obtain rfl : j = x 2 := by ext; omega
    rw [ld_x, ld_s, ld_s, ld_s, ld_w, ld_g, pay9_eq]
    refine (congrArg _ (eq_ix3 x)).trans ((slice16 _ (x 0) (x 1) (x 2)).trans ((normed_at x10 x11 x14 _ (x 1) (x 2)).trans ?_))
    exact congrArg (fun R => hid R _ _ _ (x 2)) (funext fun j => rows_at x0 x1 x2 x3 x4 x5 x6 x7 x8 x9 x10 x11 x12 x13 x14 (x 1) j)

end Cert.Kernel3Ideal.Block

end
-- ==== Proof.Stage3.lean ====
module

public import proofs.«01_k».proof.Proof.Gen.Reference3Ideal.Run
public import Idealize.ShloMosaic.Lib.Pipeline.ValueKit
public import proofs.«01_k».proof.Proof.Merge

@[expose] public section

/-! The reference program of the output projection, cut into stages and read at an index. -/

set_option maxRecDepth 16384

noncomputable section

open Idealize.ShloMosaic Idealize.ShloMosaic.TcCoe Idealize.SL.Sem

namespace Cert.Reference3Ideal.Stage

open Cert.Reference3Ideal Cert.Reference3Ideal.Gen Cert.Reference3Ideal.Value Cert.Proj Cert.Merge

/-- Three arrays as one. -/
def stack (a0 a1 a2 : FVec Ideal S4x4096x512 .f32) : FVec Ideal S3x4x4096x512 .f32 :=
  concatenate S3x4x4096x512 0 [⟨S1x4x4096x512, broadcastInDim S1x4x4096x512 ![1, 2, 3] bcast_S4x4096x512_S1x4x4096x512_1_2_3 a0⟩, ⟨S1x4x4096x512, broadcastInDim S1x4x4096x512 ![1, 2, 3] bcast_S4x4096x512_S1x4x4096x512_1_2_3 a1⟩, ⟨S1x4x4096x512, broadcastInDim S1x4x4096x512 ![1, 2, 3] bcast_S4x4096x512_S1x4x4096x512_1_2_3 a2⟩] concatenates_S1x4x4096x512_S1x4x4096x512_S1x4x4096x512_S3x4x4096x512_d0

/-- One array three times over. -/
def thrice (a : FVec Ideal S4x4096x512 .f32) : FVec Ideal S3x4x4096x512 .f32 :=
  broadcastInDim S3x4x4096x512 ![0, 1, 2, 3] bcast_S1x4x4096x512_S3x4x4096x512_0_1_2_3 (broadcastInDim S1x4x4096x512 ![1, 2, 3] bcast_S4x4096x512_S1x4x4096x512_1_2_3 a)

/-- The branches' largest normaliser. -/
def peak (L : FVec Ideal S3x4x4096x512 .f32) : FVec Ideal S4x4096x512 .f32 :=
  maximumf (broadcastInDim S4x4096x512 ![] bcast_S_S4x4096x512 (constant S_ .f32 0xFF800000#32)) (Host.reduce FloatOps.maximumf L (constant S_ .f32 0xFF800000#32) reducesTo_S3x4x4096x512_S4x4096x512_d0 h_S_)

/-- The branches' sum. -/
def sum3 (X : FVec Ideal S3x4x4096x512 .f32) : FVec Ideal S4x4096x512 .f32 :=
  Host.reduceAdd X (constant S_ .f32 0x00000000#32) reducesTo_S3x4x4096x512_S4x4096x512_d0 h_S_

/-- The branches' exponentials. -/
def expo (L : FVec Ideal S3x4x4096x512 .f32) : FVec Ideal S3x4x4096x512 .f32 := Host.exp (subf L (thrice (peak L)))

/-- The branches' merge. -/
def merge (L O : FVec Ideal S3x4x4096x512 .f32) : FVec Ideal S4x4096x512 .f32 :=
  sum3 (mulf (Host.divf (expo L) (thrice (sum3 (expo L)))) O)

/-- Normalised rows of 512. -/
def rows512 (y : FVec Ideal S4x4096x512 .f32) (g : FVec Ideal S512 .f32) : FVec Ideal S4x4096x512 .f32 :=
  mulf (mulf y (broadcastInDim S4x4096x512 ![0, 1, 2] bcast_S4x4096x1_S4x4096x512_0_1_2 (Host.rsqrt (addf (Host.divf (broadcastInDim S4x4096x1 ![0, 1] bcast_S4x4096_S4x4096x1_0_1 (Host.reduceAdd (mulf y y) (constant S_ .f32 0x00000000#32) reducesTo_S4x4096x512_S4x4096_d2 h_S_)) (broadcastInDim S4x4096x1 ![] bcast_S_S4x4096x1 (constant S_ .f32 0x44000000#32))) (broadcastInDim S4x4096x1 ![] bcast_S_S4x4096x1 (constant S_ .f32 0x358637BD#32)))))) (broadcastInDim S4x4096x512 ![0, 1, 2] bcast_S1x1x512_S4x4096x512_0_1_2 (broadcastInDim S1x1x512 ![2] bcast_S512_S1x1x512_2 g))

/-- Normalised rows of 256. -/
def rows256 (y : FVec Ideal S4x4096x256 .f32) (g : FVec Ideal S256 .f32) : FVec Ideal S4x4096x256 .f32 :=
  mulf (mulf y (broadcastInDim S4x4096x256 ![0, 1, 2] bcast_S4x4096x1_S4x4096x256_0_1_2 (Host.rsqrt (addf (Host.divf (broadcastInDim S4x4096x1 ![0, 1] bcast_S4x4096_S4x4096x1_0_1 (Host.reduceAdd (mulf y y) (constant S_ .f32 0x00000000#32) reducesTo_S4x4096x256_S4x4096_d2 h_S_)) (broadcastInDim S4x4096x1 ![] bcast_S_S4x4096x1 (constant S_ .f32 0x43800000#32))) (broadcastInDim S4x4096x1 ![] bcast_S_S4x4096x1 (constant S_ .f32 0x358637BD#32)))))) (broadcastInDim S4x4096x256 ![0, 1, 2] bcast_S1x1x256_S4x4096x256_0_1_2 (broadcastInDim S1x1x256 ![2] bcast_S256_S1x1x256_2 g))

/-- The mixers' rows side by side. -/
def join (p : FVec Ideal S4x4096x512 .f32) (q r : FVec Ideal S4x4096x256 .f32) : FVec Ideal S4x4096x1024 .f32 :=
  concatenate S4x4096x1024 2 [⟨S4x4096x512, p⟩, ⟨S4x4096x256, q⟩, ⟨S4x4096x256, r⟩] concatenates_S4x4096x512_S4x4096x256_S4x4096x256_S4x4096x1024_d2

/-- The mixers' rows, each normalised with its gains, side by side. -/
def mixed (ya : FVec Ideal S4x4096x512 .f32) (yb yc : FVec Ideal S4x4096x256 .f32) (g : FVec Ideal S1024 .f32) : FVec Ideal S4x4096x1024 .f32 :=
  join (rows512 ya (extractStridedSlice S512 ![0] g slices_S1024_S512_0)) (rows256 yb (extractStridedSlice S256 ![512] g slices_S1024_S256_512))
    (rows256 yc (extractStridedSlice S256 ![768] g slices_S1024_S256_768))

/-- The residual rows after the gated projection. -/
def after (x : FVec Ideal S4x4096x1024 .f32) (g1 : FVec Ideal S4x1x1024 .f32) (mix : FVec Ideal S4x4096x1024 .f32) (w : FVec Ideal S1024x1024 .f32) : FVec Ideal S4x4096x1024 .f32 :=
  addf x (mulf (broadcastInDim S4x4096x1024 ![0, 1, 2] bcast_S4x1x1024_S4x4096x1024_0_1_2 g1) (Host.dotGeneral dot_S4x4096x1024_S1024x1024_S4x4096x1024_2_0_01_1_n_n none mix w))

/-- The residual rows, normalised, scaled and shifted. -/
def hidden (y : FVec Ideal S4x4096x1024 .f32) (g : FVec Ideal S1024 .f32) (sc sh : FVec Ideal S4x1x1024 .f32) : FVec Ideal S4x4096x1024 .bf16 :=
  truncf .bf16 (addf (mulf (mulf (mulf y (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf y y) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))) (broadcastInDim S4x4096x1024 ![0, 1, 2] bcast_S4x1x1024_S4x4096x1024_0_1_2 (addf (broadcastInDim S4x1x1024 ![] bcast_S_S4x1x1024 (constant S_ .f32 0x3F800000#32)) sc))) (broadcastInDim S4x4096x1024 ![0, 1, 2] bcast_S4x1x1024_S4x4096x1024_0_1_2 sh)) bitsLt_bf16_f32

section Results

variable (m : (ℓ : Loc nD τ sig) → Buf (Elt Ideal) ℓ) (c : Dev nD)

/-- The joined rows of the memory's arguments. -/
abbrev mixOf : FVec Ideal S4x4096x1024 .f32 :=
  mixed (merge (stack (m ((c.tc : Thread nD τ).loc main_arg3)) (m ((c.tc : Thread nD τ).loc main_arg4)) (m ((c.tc : Thread nD τ).loc main_arg5))) (stack (m ((c.tc : Thread nD τ).loc main_arg0)) (m ((c.tc : Thread nD τ).loc main_arg1)) (m ((c.tc : Thread nD τ).loc main_arg2)))) (m ((c.tc : Thread nD τ).loc main_arg6)) (m ((c.tc : Thread nD τ).loc main_arg7)) (m ((c.tc : Thread nD τ).loc main_arg12))

/-- The residual rows of the memory's arguments. -/
abbrev afterOf : FVec Ideal S4x4096x1024 .f32 := after (m ((c.tc : Thread nD τ).loc main_arg8)) (m ((c.tc : Thread nD τ).loc main_arg9)) (mixOf m c) (m ((c.tc : Thread nD τ).loc main_arg13))

theorem res0 : res_out0 (F := Ideal) m c = afterOf m c := by
  delta res_out0; unfold res_main_v67; rfl

theorem res1 : res_out1 (F := Ideal) m c = hidden (afterOf m c) (m ((c.tc : Thread nD τ).loc main_arg14)) (m ((c.tc : Thread nD τ).loc main_arg11)) (m ((c.tc : Thread nD τ).loc main_arg10)) := by
  delta res_out1; unfold res_main_v87; rfl

end Results

/-! ## The stages at an index -/

theorem stack_at (a0 a1 a2 : FVec Ideal S4x4096x512 .f32) (i : Fin 3) (b : Fin 4) (r : Fin 4096) (l : Fin 512) :
    stack a0 a1 a2 (ix4 i b r l) = ![a0 (ix3 b r l), a1 (ix3 b r l), a2 (ix3 b r l)] i := by
  match i with
  | ⟨0, _⟩ => pointwise [stack]
  | ⟨1, _⟩ => pointwise [stack]
  | ⟨2, _⟩ => pointwise [stack]

theorem thrice_at (a : FVec Ideal S4x4096x512 .f32) (i : Fin 3) (b : Fin 4) (r : Fin 4096) (l : Fin 512) :
    thrice a (ix4 i b r l) = a (ix3 b r l) := by
  pointwise [thrice]

theorem bottom : Ideal.ofBits .f32 0xFF800000#32 = ⊥ := by
  simp [Ideal.ofBits, Ideal.ieee]

theorem zero : Ideal.ofBits .f32 0x00000000#32 = 0 := by
  simp [Ideal.ofBits, Ideal.ieee]

variable (L O : FVec Ideal S3x4x4096x512 .f32) (b : Fin 4) (r : Fin 4096)

theorem peak_of (M : FVec Ideal S4x4096x512 .f32) (i : S4x4096x512.Idx) :
    maximumf (broadcastInDim S4x4096x512 ![] bcast_S_S4x4096x512 (constant S_ .f32 0xFF800000#32)) M i = max (Ideal.ofBits .f32 0xFF800000#32) (M i) := rfl

theorem first_bottom : (constant S_ .f32 0xFF800000#32 : FVec Ideal S_ .f32) (Shape.Idx.first h_S_) = Ideal.ofBits .f32 0xFF800000#32 := rfl

theorem peak_at (l : Fin 512) : peak L (ix3 b r l) = top fun i => L (ix4 i b r l) := by
  unfold peak
  rw [peak_of, max_first, first_bottom, bottom, fold_top, max_eq_right bot_le]

theorem sum3_at (l : Fin 512) : sum3 L (ix3 b r l) = ∑ i : Fin 3, L (ix4 i b r l) := by
  have e : sum3 L (ix3 b r l) = Ideal.hostReduceAdd reducesTo_S3x4x4096x512_S4x4096x512_d0 L (Ideal.ofBits .f32 0x00000000#32) (ix3 b r l) := rfl
  rw [e, sum_first, zero, zero_add]

theorem expo_at (i : Fin 3) (l : Fin 512) : expo L (ix4 i b r l) = Ideal.exp (L (ix4 i b r l) - top fun i => L (ix4 i b r l)) := by
  show Ideal.exp (L (ix4 i b r l) - thrice (peak L) (ix4 i b r l)) = _
  rw [thrice_at, peak_at]

theorem merge_at (l : Fin 512) : merge L O (ix3 b r l) = mergeR (fun i => L (ix4 i b r l)) (fun i => O (ix4 i b r l)) := by
  unfold merge mergeR
  rw [sum3_at]
  refine Finset.sum_congr rfl fun i _ => ?_
  show Ideal.div (expo L (ix4 i b r l)) (thrice (sum3 (expo L)) (ix4 i b r l)) * O (ix4 i b r l) = _
  rw [thrice_at, sum3_at]
  simp only [expo_at]

set_option maxHeartbeats 4000000 in
theorem rows512_at (y : FVec Ideal S4x4096x512 .f32) (g : FVec Ideal S512 .f32) (l : Fin 512) :
    rows512 y g (ix3 b r l) = wide (fun l => y (ix3 b r l)) (fun l => g (ix1 l)) l := by
  unfold rows512
  pointwise [wide, rms]

set_option maxHeartbeats 4000000 in
theorem rows256_at (y : FVec Ideal S4x4096x256 .f32) (g : FVec Ideal S256 .f32) (l : Fin 256) :
    rows256 y g (ix3 b r l) = unit (fun l => y (ix3 b r l)) (fun l => g (ix1 l)) l := by
  unfold rows256
  pointwise [unit, rms]

theorem join_at (p : FVec Ideal S4x4096x512 .f32) (q s : FVec Ideal S4x4096x256 .f32) (k : Fin 1024) :
    join p q s (ix3 b r k) = joined (fun l => p (ix3 b r l)) (fun l => q (ix3 b r l)) (fun l => s (ix3 b r l)) k := by
  pointwise [join]
  exact joined_of (fun l => p (ix3 b r l)) (fun l => q (ix3 b r l)) (fun l => s (ix3 b r l)) k

theorem gain0 (g : FVec Ideal S1024 .f32) (l : Fin 512) : extractStridedSlice S512 ![0] g slices_S1024_S512_0 (ix1 l) = g (ix1 ⟨l, by omega⟩) := by
  pointwise []

theorem gain1 (g : FVec Ideal S1024 .f32) (l : Fin 256) : extractStridedSlice S256 ![512] g slices_S1024_S256_512 (ix1 l) = g (ix1 ⟨512 + l, by omega⟩) := by
  pointwise []

theorem gain2 (g : FVec Ideal S1024 .f32) (l : Fin 256) : extractStridedSlice S256 ![768] g slices_S1024_S256_768 (ix1 l) = g (ix1 ⟨768 + l, by omega⟩) := by
  pointwise []

theorem mixed_at (ya : FVec Ideal S4x4096x512 .f32) (yb yc : FVec Ideal S4x4096x256 .f32) (g : FVec Ideal S1024 .f32) (k : Fin 1024) :
    mixed ya yb yc g (ix3 b r k) = Merge.mixed (fun l => ya (ix3 b r l)) (fun l => yb (ix3 b r l)) (fun l => yc (ix3 b r l)) (fun k => g (ix1 k)) k := by
  unfold mixed
  rw [join_at]
  simp only [Merge.mixed, rows512_at, rows256_at, gain0, gain1, gain2]

set_option maxHeartbeats 4000000 in
theorem after_at (x : FVec Ideal S4x4096x1024 .f32) (g1 : FVec Ideal S4x1x1024 .f32) (mix : FVec Ideal S4x4096x1024 .f32) (w : FVec Ideal S1024x1024 .f32) (j : Fin 1024) :
    after x g1 mix w (ix3 b r j) = resid (fun k => x (ix3 b r k)) (fun k => g1 (ix3 b 0 k)) (fun k => mix (ix3 b r k)) (fun k j => w (ix2 k j)) j := by
  unfold after
  pointwise [resid]

set_option maxHeartbeats 4000000 in
theorem hidden_at (y : FVec Ideal S4x4096x1024 .f32) (g : FVec Ideal S1024 .f32) (sc sh : FVec Ideal S4x1x1024 .f32) (j : Fin 1024) :
    hidden y g sc sh (ix3 b r j) = hid (fun k => y (ix3 b r k)) (fun k => g (ix1 k)) (fun k => sc (ix3 b 0 k)) (fun k => sh (ix3 b 0 k)) j := by
  unfold hidden
  pointwise [hid, rms]

end Cert.Reference3Ideal.Stage

end
-- ==== Proof.Bridge3.lean ====
module

public import proofs.«01_k».proof.Proof.Gen.Kernel3Ideal.Value
public import proofs.«01_k».proof.Proof.Block3
public import proofs.«01_k».proof.Proof.Stage3

@[expose] public section

/-! The grid points' blocks of the output projection assembled: the kernel's results are the reference's. -/

set_option maxRecDepth 16384

noncomputable section

open Idealize.ShloMosaic Idealize.ShloMosaic.TcCoe Idealize.SL Idealize.SL.Sem

namespace Cert.Kernel3Ideal.Bridge

open Cert.Kernel3Ideal Cert.Kernel3Ideal.Gen Cert.Reference3Ideal Cert.Proj Cert.Merge

variable (m : (ℓ : Loc nD τ sig) → Buf (Elt Ideal) ℓ) (c : Dev nD)

abbrev O0 : FVec Ideal S4x4096x512 .f32 := m ((c : Thread nD τ).loc main_arg0)
abbrev O1 : FVec Ideal S4x4096x512 .f32 := m ((c : Thread nD τ).loc main_arg1)
abbrev O2 : FVec Ideal S4x4096x512 .f32 := m ((c : Thread nD τ).loc main_arg2)
abbrev L0 : FVec Ideal S4x4096x512 .f32 := m ((c : Thread nD τ).loc main_arg3)
abbrev L1 : FVec Ideal S4x4096x512 .f32 := m ((c : Thread nD τ).loc main_arg4)
abbrev L2 : FVec Ideal S4x4096x512 .f32 := m ((c : Thread nD τ).loc main_arg5)
abbrev Yb : FVec Ideal S4x4096x256 .f32 := m ((c : Thread nD τ).loc main_arg6)
abbrev Yc : FVec Ideal S4x4096x256 .f32 := m ((c : Thread nD τ).loc main_arg7)
abbrev X : FVec Ideal S4x4096x1024 .f32 := m ((c : Thread nD τ).loc main_arg8)
abbrev G1 : FVec Ideal S4x1x1024 .f32 := m ((c : Thread nD τ).loc main_arg9)
abbrev Sh : FVec Ideal S4x1x1024 .f32 := m ((c : Thread nD τ).loc main_arg10)
abbrev Sc : FVec Ideal S4x1x1024 .f32 := m ((c : Thread nD τ).loc main_arg11)
abbrev Og : FVec Ideal S1024 .f32 := m ((c : Thread nD τ).loc main_arg12)
abbrev W : FVec Ideal S1024x1024 .f32 := m ((c : Thread nD τ).loc main_arg13)
abbrev Nf : FVec Ideal S1024 .f32 := m ((c : Thread nD τ).loc main_arg14)

/-- The merged rows of the memory's arguments. -/
abbrev Ya : FVec Ideal S4x4096x512 .f32 := Stage.merge (Stage.stack (L0 m c) (L1 m c) (L2 m c)) (Stage.stack (O0 m c) (O1 m c) (O2 m c))

/-- The joined rows of the memory's arguments. -/
abbrev Mix : FVec Ideal S4x4096x1024 .f32 :=
  Stage.mixed (Ya m c) (Yb m c) (Yc m c) (Og m c)

/-- The residual rows of the memory's arguments. -/
abbrev R : FVec Ideal S4x4096x1024 .f32 := Stage.after (X m c) (G1 m c) (Mix m c) (W m c)

/-- The operands when the grid is entered. -/
theorem operands :
    V m c main_v0 = broadcastInDim S1x1024 ![1] bcast_S1024_S1x1024_1 (Og m c)
    ∧ V m c main_v1 = (truncf .bf16 (W m c) bitsLt_bf16_f32 : FVec Ideal S1024x1024 .bf16)
    ∧ V m c main_v2 = broadcastInDim S1x1024 ![1] bcast_S1024_S1x1024_1 (Nf m c) := by
  refine ⟨?_, ?_, ?_⟩
  all_goals
    unfold V
    simp only [hostOps0, List.flatten_cons, List.flatten_nil, List.cons_append, List.nil_append, List.append_nil, StableHlo.TRef.nullary, StableHlo.TRef.binary, StableHlo.TRef.ternary, StableHlo.TRef.unary, StableHlo.TRef.toBuf, StableHlo.TRef.ofBuf, cast_eq]
    after_results_simp
    all_goals rfl

theorem idx : ∀ t : Fin cfg0.N,
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0]
    ∧ win0_8.index t = ![(grid0.coords t 0).val, (grid0.coords t 1).val, 0]
    ∧ win0_9.index t = ![(grid0.coords t 0).val, 0, 0]
    ∧ win0_10.index t = ![(grid0.coords t 0).val, 0, 0]
    ∧ win0_11.index t = ![(grid0.coords t 0).val, 0, 0]
    ∧ win0_12.index t = ![0, 0]
    ∧ win0_13.index t = ![0, 0]
    ∧ win0_14.index t = ![0, 0]
    ∧ win0_15.index t = ![(grid0.coords t 0).val, (grid0.coords t 1).val, 0]
    ∧ win0_16.index t = ![(grid0.coords t 0).val, (grid0.coords t 1).val, 0] :=
  (by decide +kernel : ∀ t : Fin grid0.N, _)

theorem row_lt (t : Fin cfg0.N) (r : Fin 512) : (grid0.coords t 1 : ℕ) * 512 + r < 4096 := by
  have h2 : (grid0.coords t 1 : ℕ) < 8 := (grid0.coords t 1).isLt
  omega

/-- The batch that a grid point's block lies in. -/
abbrev batch (t : Fin cfg0.N) : Fin 4 := ⟨(grid0.coords t 0 : ℕ), (grid0.coords t 0).isLt⟩

/-- The row of the sequence that a grid point's row is. -/
abbrev row (t : Fin cfg0.N) (r : Fin 512) : Fin 4096 := ⟨(grid0.coords t 1 : ℕ) * 512 + r, row_lt t r⟩

theorem read0 (t : Fin cfg0.N) (r : Fin 512) (l : Fin 512) : (iblk m c 0 t : FVec Ideal S1x512x512 .f32) (ix3 0 r l) = O0 m c (ix3 (batch t) (row t r) l) := by
  blk_simp [iblk]
  rw [V_main_arg0]
  blk_ext [idx t]

theorem read1 (t : Fin cfg0.N) (r : Fin 512) (l : Fin 512) : (iblk m c 1 t : FVec Ideal S1x512x512 .f32) (ix3 0 r l) = O1 m c (ix3 (batch t) (row t r) l) := by
  blk_simp [iblk]
  rw [V_main_arg1]
  blk_ext [idx t]

theorem read2 (t : Fin cfg0.N) (r : Fin 512) (l : Fin 512) : (iblk m c 2 t : FVec Ideal S1x512x512 .f32) (ix3 0 r l) = O2 m c (ix3 (batch t) (row t r) l) := by
  blk_simp [iblk]
  rw [V_main_arg2]
  blk_ext [idx t]

theorem read3 (t : Fin cfg0.N) (r : Fin 512) (l : Fin 512) : (iblk m c 3 t : FVec Ideal S1x512x512 .f32) (ix3 0 r l) = L0 m c (ix3 (batch t) (row t r) l) := by
  blk_simp [iblk]
  rw [V_main_arg3]
  blk_ext [idx t]

theorem read4 (t : Fin cfg0.N) (r : Fin 512) (l : Fin 512) : (iblk m c 4 t : FVec Ideal S1x512x512 .f32) (ix3 0 r l) = L1 m c (ix3 (batch t) (row t r) l) := by
  blk_simp [iblk]
  rw [V_main_arg4]
  blk_ext [idx t]

theorem read5 (t : Fin cfg0.N) (r : Fin 512) (l : Fin 512) : (iblk m c 5 t : FVec Ideal S1x512x512 .f32) (ix3 0 r l) = L2 m c (ix3 (batch t) (row t r) l) := by
  blk_simp [iblk]
  rw [V_main_arg5]
  blk_ext [idx t]

theorem read6 (t : Fin cfg0.N) (r : Fin 512) (l : Fin 256) : (iblk m c 6 t : FVec Ideal S1x512x256 .f32) (ix3 0 r l) = Yb m c (ix3 (batch t) (row t r) l) := by
  blk_simp [iblk]
  rw [V_main_arg6]
  blk_ext [idx t]

theorem read7 (t : Fin cfg0.N) (r : Fin 512) (l : Fin 256) : (iblk m c 7 t : FVec Ideal S1x512x256 .f32) (ix3 0 r l) = Yc m c (ix3 (batch t) (row t r) l) := by
  blk_simp [iblk]
  rw [V_main_arg7]
  blk_ext [idx t]

theorem read8 (t : Fin cfg0.N) (r : Fin 512) (l : Fin 1024) : (iblk m c 8 t : FVec Ideal S1x512x1024 .f32) (ix3 0 r l) = X m c (ix3 (batch t) (row t r) l) := by
  blk_simp [iblk]
  rw [V_main_arg8]
  blk_ext [idx t]

theorem read9 (t : Fin cfg0.N) (k : Fin 1024) : (iblk m c 9 t : FVec Ideal S1x1x1024 .f32) (ix3 0 0 k) = G1 m c (ix3 (batch t) 0 k) := by
  blk_simp [iblk]
  rw [V_main_arg9]
  blk_ext [idx t]

theorem read10 (t : Fin cfg0.N) (k : Fin 1024) : (iblk m c 10 t : FVec Ideal S1x1x1024 .f32) (ix3 0 0 k) = Sh m c (ix3 (batch t) 0 k) := by
  blk_simp [iblk]
  rw [V_main_arg10]
  blk_ext [idx t]

theorem read11 (t : Fin cfg0.N) (k : Fin 1024) : (iblk m c 11 t : FVec Ideal S1x1x1024 .f32) (ix3 0 0 k) = Sc m c (ix3 (batch t) 0 k) := by
  blk_simp [iblk]
  rw [V_main_arg11]
  blk_ext [idx t]

theorem read12 (t : Fin cfg0.N) (k : Fin 1024) : (iblk m c 12 t : FVec Ideal S1x1024 .f32) (ix2 0 k) = Og m c (ix1 k) := by
  have e : (iblk m c 12 t : FVec Ideal S1x1024 .f32) (ix2 0 k) = (V m c main_v0 : FVec Ideal S1x1024 .f32) (ix2 0 k) := by
    blk_ext [iblk, idx t]
  rw [e, (operands m c).1]
  pointwise []

theorem read13 (t : Fin cfg0.N) (k j : Fin 1024) : (iblk m c 13 t : FVec Ideal S1024x1024 .bf16) (ix2 k j) = W m c (ix2 k j) := by
  have e : (iblk m c 13 t : FVec Ideal S1024x1024 .bf16) (ix2 k j) = (V m c main_v1 : FVec Ideal S1024x1024 .bf16) (ix2 k j) := by
    blk_ext [iblk, idx t]
  rw [e, (operands m c).2.1]
  rfl

theorem read14 (t : Fin cfg0.N) (k : Fin 1024) : (iblk m c 14 t : FVec Ideal S1x1024 .f32) (ix2 0 k) = Nf m c (ix1 k) := by
  have e : (iblk m c 14 t : FVec Ideal S1x1024 .f32) (ix2 0 k) = (V m c main_v2 : FVec Ideal S1x1024 .f32) (ix2 0 k) := by
    blk_ext [iblk, idx t]
  rw [e, (operands m c).2.2]
  pointwise []

/-- The normalisers are real. -/
structure Reals : Prop where
  l0 : ∀ i, Real' (L0 m c i)
  l1 : ∀ i, Real' (L1 m c i)
  l2 : ∀ i, Real' (L2 m c i)

variable {m c}

/-- An index by its coordinates. -/
theorem eq_of {n0 n1 n2 : ℕ} {y : (⟨3, ![n0, n1, n2]⟩ : Shape).Idx} {a : Fin n0} {b : Fin n1} {d : Fin n2}
    (h0 : (y 0 : ℕ) = a) (h1 : (y 1 : ℕ) = b) (h2 : (y 2 : ℕ) = d) : y = ix3 a b d := by
  rw [eq_ix3 y]
  exact congr (congr (congrArg ix3 (Fin.ext h0)) (Fin.ext h1)) (Fin.ext h2)

/-- A grid point's merged rows are the reference's. -/
theorem ya_eq (h : Reals m c) (t : Fin cfg0.N) (r l : Fin 512) :
    Block.ya (iblk m c 0 t) (iblk m c 1 t) (iblk m c 2 t) (iblk m c 3 t) (iblk m c 4 t) (iblk m c 5 t) r l = Ya m c (ix3 (batch t) (row t r) l) := by
  refine Eq.trans ?_ (Stage.merge_at (Stage.stack (L0 m c) (L1 m c) (L2 m c)) (Stage.stack (O0 m c) (O1 m c) (O2 m c)) (batch t) (row t r) l).symm
  simp only [Block.ya, read0, read1, read2, read3, read4, read5, Stage.stack_at]
  refine merge_agree (fun i => ?_) _
  match i with
  | ⟨0, _⟩ => exact h.l0 _
  | ⟨1, _⟩ => exact h.l1 _
  | ⟨2, _⟩ => exact h.l2 _

/-- A grid point's joined rows are the reference's. -/
theorem mix_eq (h : Reals m c) (t : Fin cfg0.N) (r : Fin 512) (k : Fin 1024) :
    Block.mix (iblk m c 0 t) (iblk m c 1 t) (iblk m c 2 t) (iblk m c 3 t) (iblk m c 4 t) (iblk m c 5 t) (iblk m c 6 t) (iblk m c 7 t) (iblk m c 12 t) r k
      = Mix m c (ix3 (batch t) (row t r) k) := by
  refine Eq.trans ?_ (Stage.mixed_at (batch t) (row t r) (Ya m c) (Yb m c) (Yc m c) (Og m c) k).symm
  have e : Block.ya (iblk m c 0 t) (iblk m c 1 t) (iblk m c 2 t) (iblk m c 3 t) (iblk m c 4 t) (iblk m c 5 t) r = fun l => Ya m c (ix3 (batch t) (row t r) l) :=
    funext fun l => ya_eq h t r l
  simp only [Block.mix, e, read6, read7, read12]

/-- A grid point's residual rows are the reference's. -/
theorem row_eq (h : Reals m c) (t : Fin cfg0.N) (r : Fin 512) (j : Fin 1024) :
    Block.row (iblk m c 0 t) (iblk m c 1 t) (iblk m c 2 t) (iblk m c 3 t) (iblk m c 4 t) (iblk m c 5 t) (iblk m c 6 t) (iblk m c 7 t) (iblk m c 8 t) (iblk m c 9 t) (iblk m c 12 t) (iblk m c 13 t) r j
      = R m c (ix3 (batch t) (row t r) j) := by
  refine Eq.trans ?_ (Stage.after_at (batch t) (row t r) (X m c) (G1 m c) (Mix m c) (W m c) j).symm
  have e : Block.mix (iblk m c 0 t) (iblk m c 1 t) (iblk m c 2 t) (iblk m c 3 t) (iblk m c 4 t) (iblk m c 5 t) (iblk m c 6 t) (iblk m c 7 t) (iblk m c 12 t) r
      = fun k => Mix m c (ix3 (batch t) (row t r) k) := funext fun k => mix_eq h t r k
  simp only [Block.row, e, read8, read9, read13]

/-- A grid point's normalised rows are the reference's. -/
theorem hidden_eq (h : Reals m c) (t : Fin cfg0.N) (r : Fin 512) (j : Fin 1024) :
    hid (Block.row (iblk m c 0 t) (iblk m c 1 t) (iblk m c 2 t) (iblk m c 3 t) (iblk m c 4 t) (iblk m c 5 t) (iblk m c 6 t) (iblk m c 7 t) (iblk m c 8 t) (iblk m c 9 t) (iblk m c 12 t) (iblk m c 13 t) r)
        (fun k => (iblk m c 14 t : FVec Ideal S1x1024 .f32) (ix2 0 k)) (fun k => (iblk m c 11 t : FVec Ideal S1x1x1024 .f32) (ix3 0 0 k)) (fun k => (iblk m c 10 t : FVec Ideal S1x1x1024 .f32) (ix3 0 0 k)) j
      = Stage.hidden (R m c) (Nf m c) (Sc m c) (Sh m c) (ix3 (batch t) (row t r) j) := by
  refine Eq.trans ?_ (Stage.hidden_at (batch t) (row t r) (R m c) (Nf m c) (Sc m c) (Sh m c) j).symm
  have e := funext fun j => row_eq h t r j
  simp only [e, read14, read10, read11]

set_option maxHeartbeats 1600000 in
/-- The residual rows after the run. -/
theorem final15 (h : Reals m c) : (dats m 0 c).arrAt 15 cfg0.N = R m c := by
  refine (dats m 0 c).arrAt_eq_of_covers 15 _ (by decide +kernel) fun t _ y => ?_
  have hy0 : (y 0 : ℕ) < 1 := (y 0).isLt
  blk_simp
  rw [after0_15]
  refine (Block.out15_at _ _ _ _ _ _ _ _ _ _ _ _ _ _ _ (y 1) (y 2) y rfl rfl).trans ((row_eq h t (y 1) (y 2)).trans (congrArg _ (eq_of ?_ ?_ ?_).symm))
  all_goals
    blk_simp [idx t] <;> first | omega | (dsimp only; omega)

set_option maxHeartbeats 1600000 in
/-- The normalised rows after the run. -/
theorem final16 (h : Reals m c) : (dats m 0 c).arrAt 16 cfg0.N = Stage.hidden (R m c) (Nf m c) (Sc m c) (Sh m c) := by
  refine (dats m 0 c).arrAt_eq_of_covers 16 _ (by decide +kernel) fun t _ y => ?_
  have hy0 : (y 0 : ℕ) < 1 := (y 0).isLt
  blk_simp
  rw [after0_16]
  refine (Block.out16_at _ _ _ _ _ _ _ _ _ _ _ _ _ _ _ (y 1) (y 2) y rfl rfl).trans ((hidden_eq h t (y 1) (y 2)).trans (congrArg _ (eq_of ?_ ?_ ?_).symm))
  all_goals
    blk_simp [idx t] <;> first | omega | (dsimp only; omega)

end Cert.Kernel3Ideal.Bridge

end
-- ==== Proof.Outproj.lean ====
module

public import proofs.«01_k».proof.Defs
public import proofs.«01_k».proof.Proof.Finite3
public import proofs.«01_k».proof.Proof.Bridge3
public import proofs.«01_k».proof.Proof.Gen.Kernel3.Frame
public import Idealize.ShloMosaic.Lib.Quiescent

@[expose] public section

/-! The claims of the output projection. -/

noncomputable section

open Idealize.ShloMosaic Idealize.ShloMosaic.TcCoe Idealize.SL.Sem

namespace Cert.Outproj

instance : Cert.Kernel3Ideal.Facts := Cert.Kernel3Ideal.Gen.facts
instance : Cert.Reference3Ideal.Facts := Cert.Reference3Ideal.Gen.facts

/-- The kernel's frame. -/
theorem frame_kernel : Cert.quiescent_Kernel3 := fun m g _ => Cert.Kernel3.Gen.frame m g

/-- The ideal kernel's frame. -/
theorem frame_ideal : Cert.quiescent_Kernel3Ideal := fun m g _ => Cert.Kernel3Ideal.Gen.frame m g

/-- The ideal kernel's frame under the precondition. -/
theorem frame_ideal_finite : Cert.quiescent_Kernel3Ideal_pre_finite_outproj := fun m g _ => Cert.Kernel3Ideal.Gen.frame m g

/-- The reference's frame. -/
theorem frame_reference : Cert.quiescent_Reference3Ideal := fun m g _ =>
  (θ_run _ _ _).mono (fun r h => ⟨fun c => (h c).2.2, sem_eq_zero_of_no_sems (by decide) r.2⟩) (Cert.Reference3Ideal.Value.run m g)

/-- The reference's frame under the precondition. -/
theorem frame_reference_finite : Cert.quiescent_Reference3Ideal_pre_finite_outproj := fun m g _ => frame_reference m g trivial

/-- The ideal kernel is the kernel. -/
theorem preserves : Cert.preserves_Kernel3_Kernel3Ideal := trivial

set_option maxHeartbeats 3200000 in
open Cert.Reference3Ideal in
/-- Kernel and reference end with equal results. -/
theorem algebraic : Cert.algebraic_Kernel3Ideal_Reference3Ideal_pre_finite_outproj := by
  intro m g m' g' hpre hagree
  refine ⟨_, _, Cert.Kernel3Ideal.Value.run_blocks m g, (θ_run _ _ _).mono (fun r h c => ?_) (Cert.Reference3Ideal.Value.run m' g')⟩
  obtain ⟨a0, a1, a2, a3, a4, a5, a6, a7, a8, a9, a10, a11, a12, a13, a14⟩ := hagree c
  obtain ⟨hl0, hl1, hl2⟩ := Cert.Pre_finite_outproj.reals (hpre c)
  have H : Cert.Kernel3Ideal.Bridge.Reals m c := ⟨hl0, hl1, hl2⟩
  have hr : Stage.afterOf m' c = Cert.Kernel3Ideal.Bridge.R m c := by
    rw [Stage.afterOf, Stage.mixOf, a0, a1, a2, a3, a4, a5, a6, a7, a8, a9, a12, a13]
  obtain ⟨h0, h1, ht⟩ := h c
  refine ⟨h0.trans ((Stage.res0 m' c).trans ?_), h1.trans ((Stage.res1 m' c).trans ?_), ht⟩
  · rw [hr]
    exact (Cert.Kernel3Ideal.Bridge.final15 H).symm
  · rw [hr, a10, a11, a14]
    exact (Cert.Kernel3Ideal.Bridge.final16 H).symm

end Cert.Outproj

end
-- ==== Proof.lean ====
/- The claims of the certificate, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Branch1
public import proofs.«01_k».proof.Proof.Inproj
public import proofs.«01_k».proof.Proof.Outproj
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.facts, Cert.Pre_finite_inproj.facts, Cert.Pre_finite_outproj.facts,
  Branch1.frame_kernel, Branch1.frame_ideal, Branch1.frame_ideal_finite, Branch1.frame_reference, Branch1.frame_reference_finite,
  Inproj.frame_kernel, Inproj.frame_ideal, Inproj.frame_ideal_finite, Inproj.frame_reference, Inproj.frame_reference_finite,
  Outproj.frame_kernel, Outproj.frame_ideal, Outproj.frame_ideal_finite, Outproj.frame_reference, Outproj.frame_reference_finite,
  Branch1.preserves, Branch1.algebraic, Inproj.preserves, Inproj.algebraic, Outproj.preserves, Outproj.algebraic⟩

end Cert.Proof

end
